-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54_1)) (v1 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_1) = v0 c
          ∧ r.2.mem ((c.tc : Thread Cert.KernelIdeal.nD Cert.KernelIdeal.τ).loc Cert.KernelIdeal.main_v54_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1280x2048 : Shape := ⟨3, ![8, 1280, 2048]⟩
abbrev S8x1280 : Shape := ⟨2, ![8, 1280]⟩
abbrev S2048x16384 : Shape := ⟨2, ![2048, 16384]⟩
abbrev S16384 : Shape := ⟨1, ![16384]⟩
abbrev S_ : Shape := ⟨0, ![]⟩
abbrev S16384x2048 : Shape := ⟨2, ![16384, 2048]⟩
abbrev S2048 : Shape := ⟨1, ![2048]⟩
abbrev S10240x2048 : Shape := ⟨2, ![10240, 2048]⟩
abbrev S10240x1 : Shape := ⟨2, ![10240, 1]⟩
abbrev S10240x128 : Shape := ⟨2, ![10240, 128]⟩
abbrev S1x16384 : Shape := ⟨2, ![1, 16384]⟩
abbrev S8x16384 : Shape := ⟨2, ![8, 16384]⟩
abbrev S1 : Shape := ⟨1, ![1]⟩
abbrev S4 : Shape := ⟨1, ![4]⟩
abbrev S1x2048 : Shape := ⟨2, ![1, 2048]⟩
abbrev S8x2048 : Shape := ⟨2, ![8, 2048]⟩
abbrev S10240x16384 : Shape := ⟨2, ![10240, 16384]⟩
abbrev S1024x2048 : Shape := ⟨2, ![1024, 2048]⟩
abbrev S1024x128 : Shape := ⟨2, ![1024, 128]⟩
abbrev S2048x1024 : Shape := ⟨2, ![2048, 1024]⟩
abbrev S8x1024 : Shape := ⟨2, ![8, 1024]⟩
abbrev S1024x1024 : Shape := ⟨2, ![1024, 1024]⟩
abbrev S256x1024 : Shape := ⟨2, ![256, 1024]⟩
abbrev S256x128 : Shape := ⟨2, ![256, 128]⟩
abbrev S256x256 : Shape := ⟨2, ![256, 256]⟩
abbrev S1024x256 : Shape := ⟨2, ![1024, 256]⟩
abbrev S1x256 : Shape := ⟨2, ![1, 256]⟩
abbrev S256x2048 : Shape := ⟨2, ![256, 2048]⟩
abbrev S32x1 : Shape := ⟨2, ![32, 1]⟩
abbrev S32x2048 : Shape := ⟨2, ![32, 2048]⟩
abbrev S32 : Shape := ⟨1, ![32]⟩

abbrev nBuf : Space → Nat
  | .hbm => 95
  | .vmem => 23
  | .smem => 1
  | _ => 0

abbrev bufTy : (tb : Table) → Fin (tcTables nBuf tb) → BufTy
  | .hbm, ⟨0, _⟩ => ⟨S8x1280x2048, .i8⟩
  | .hbm, ⟨1, _⟩ => ⟨S8x1280, .i32⟩
  | .hbm, ⟨2, _⟩ => ⟨S2048x16384, .i8⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384x2048, .i8⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S10240x2048, .i8⟩
  | .hbm, ⟨17, _⟩ => ⟨S10240x1, .i32⟩
  | .hbm, ⟨18, _⟩ => ⟨S10240x128, .i32⟩
  | .hbm, ⟨19, _⟩ => ⟨S10240x1, .i32⟩
  | .hbm, ⟨20, _⟩ => ⟨S10240x1, .i32⟩
  | .hbm, ⟨21, _⟩ => ⟨S_, .i32⟩
  | .hbm, ⟨22, _⟩ => ⟨S10240x1, .i32⟩
  | .hbm, ⟨23, _⟩ => ⟨S10240x1, .i1⟩
  | .hbm, ⟨24, _⟩ => ⟨S_, .i32⟩
  | .hbm, ⟨25, _⟩ => ⟨S10240x1, .i32⟩
  | .hbm, ⟨26, _⟩ => ⟨S10240x1, .i1⟩
  | .hbm, ⟨27, _⟩ => ⟨S10240x1, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S10240x1, .i32⟩
  | .hbm, ⟨32, _⟩ => ⟨S10240x1, .i32⟩
  | .hbm, ⟨33, _⟩ => ⟨S_, .i32⟩
  | .hbm, ⟨34, _⟩ => ⟨S10240x1, .i32⟩
  | .hbm, ⟨35, _⟩ => ⟨S10240x1, .i32⟩
  | .hbm, ⟨36, _⟩ => ⟨S_, .i32⟩
  | .hbm, ⟨37, _⟩ => ⟨S10240x1, .i32⟩
  | .hbm, ⟨38, _⟩ => ⟨S10240x1, .i32⟩
  | .hbm, ⟨39, _⟩ => ⟨S_, .i32⟩
  | .hbm, ⟨40, _⟩ => ⟨S_, .i32⟩
  | .hbm, ⟨41, _⟩ => ⟨S10240x1, .i32⟩
  | .hbm, ⟨42, _⟩ => ⟨S10240x1, .i32⟩
  | .hbm, ⟨43, _⟩ => ⟨S10240x128, .i32⟩
  | .hbm, ⟨44, _⟩ => ⟨S_, .i32⟩
  | .hbm, ⟨45, _⟩ => ⟨S16384, .i32⟩
  | .hbm, ⟨46, _⟩ => ⟨S1x16384, .i32⟩
  | .hbm, ⟨47, _⟩ => ⟨S1x16384, .i32⟩
  | .hbm, ⟨48, _⟩ => ⟨S1x16384, .i32⟩
  | .hbm, ⟨49, _⟩ => ⟨S1x16384, .i32⟩
  | .hbm, ⟨50, _⟩ => ⟨S1x16384, .i32⟩
  | .hbm, ⟨51, _⟩ => ⟨S1x16384, .i32⟩
  | .hbm, ⟨52, _⟩ => ⟨S1x16384, .i32⟩
  | .hbm, ⟨53, _⟩ => ⟨S1x16384, .i32⟩
  | .hbm, ⟨54, _⟩ => ⟨S8x16384, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S1, .i32⟩
  | .hbm, ⟨67, _⟩ => ⟨S1, .i32⟩
  | .hbm, ⟨68, _⟩ => ⟨S4, .i32⟩
  | .hbm, ⟨69, _⟩ => ⟨S_, .i32⟩
  | .hbm, ⟨70, _⟩ => ⟨S2048, .i32⟩
  | .hbm, ⟨71, _⟩ => ⟨S2048, .i32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S2048, .i32⟩
  | .hbm, ⟨83, _⟩ => ⟨S1x2048, .i32⟩
  | .hbm, ⟨84, _⟩ => ⟨S1x2048, .i32⟩
  | .hbm, ⟨85, _⟩ => ⟨S1x2048, .i32⟩
  | .hbm, ⟨86, _⟩ => ⟨S1x2048, .i32⟩
  | .hbm, ⟨87, _⟩ => ⟨S1x2048, .i32⟩
  | .hbm, ⟨88, _⟩ => ⟨S1x2048, .i32⟩
  | .hbm, ⟨89, _⟩ => ⟨S1x2048, .i32⟩
  | .hbm, ⟨90, _⟩ => ⟨S1x2048, .i32⟩
  | .hbm, ⟨91, _⟩ => ⟨S8x2048, .i32⟩
  | .hbm, ⟨92, _⟩ => ⟨S10240x2048, .i8⟩
  | .hbm, ⟨93, _⟩ => ⟨S10240x16384, .i8⟩
  | .hbm, ⟨94, _⟩ => ⟨S10240x2048, .i32⟩
  | .local _ .vmem, ⟨0, _⟩ => ⟨S1024x2048, .i8⟩
  | .local _ .vmem, ⟨1, _⟩ => ⟨S1024x2048, .i8⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1024x128, .i32⟩
  | .local _ .vmem, ⟨6, _⟩ => ⟨S2048x1024, .i8⟩
  | .local _ .vmem, ⟨7, _⟩ => ⟨S2048x1024, .i8⟩
  | .local _ .vmem, ⟨8, _⟩ => ⟨S8x1024, .i32⟩
  | .local _ .vmem, ⟨9, _⟩ => ⟨S8x1024, .i32⟩
  | .local _ .vmem, ⟨10, _⟩ => ⟨S1024x2048, .i8⟩
  | .local _ .vmem, ⟨11, _⟩ => ⟨S1024x2048, .i8⟩
  | .local _ .vmem, ⟨12, _⟩ => ⟨S8x2048, .i32⟩
  | .local _ .vmem, ⟨13, _⟩ => ⟨S1024x2048, .i8⟩
  | .local _ .vmem, ⟨14, _⟩ => ⟨S1024x2048, .i8⟩
  | .local _ .vmem, ⟨15, _⟩ => ⟨S1024x1024, .i8⟩
  | .local _ .vmem, ⟨16, _⟩ => ⟨S1024x1024, .i8⟩
  | .local _ .vmem, ⟨17, _⟩ => ⟨S1024x2048, .i32⟩
  | .local _ .vmem, ⟨18, _⟩ => ⟨S1024x2048, .i32⟩
  | .local _ .vmem, ⟨19, _⟩ => ⟨S1024x2048, .bf16⟩
  | .local _ .vmem, ⟨20, _⟩ => ⟨S2048x1024, .bf16⟩
  | .local _ .vmem, ⟨21, _⟩ => ⟨S1024x2048, .bf16⟩
  | .local _ .vmem, ⟨22, _⟩ => ⟨S256x1024, .bf16⟩
  | .local _ .smem, ⟨0, _⟩ => ⟨S4, .i32⟩
  | _, _ => ⟨S8x1280x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_c_9 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_c_11 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_c_13 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v54_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![10, 16], ![false, false]⟩

@[reducible] def k0_t1_loop : Scf.Loop 32 :=
  let c0_i32_9 : BitVec 32 := 0#32
  let c4_i32 : BitVec 32 := 4#32
  let v17 : BitVec 32 := Scalar.addi c0_i32_9 c4_i32
  let c1_i32 : BitVec 32 := 1#32
  ⟨c0_i32_9, v17, c1_i32⟩
def k0_mult1 (k0_t1 : Fin k0_t1_loop.trips) : BitVec 32 :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  v21
def k0_off1 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v23 : Index := Scalar.indexCast v22
  let c0_12 : Index := 0#32
  ![v23.toNat, 0]
def k0_off2 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v28 : Index := Scalar.indexCast v22
  let c0_14 : Index := 0#32
  ![v28.toNat, 0]
def k0_off3 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v34 : Index := Scalar.indexCast v22
  let c1024 : Index := 1024#32
  ![v34.toNat, 1024]
def k0_off4 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v116 : Index := Scalar.indexCast v22
  let c0_37 : Index := 0#32
  ![v116.toNat, 0]
def k0_off5 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v212 : Index := Scalar.indexCast v22
  let c256_73 : Index := 256#32
  ![v212.toNat, 256]
def k0_off6 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v308 : Index := Scalar.indexCast v22
  let c512_109 : Index := 512#32
  ![v308.toNat, 512]
def k0_off7 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v404 : Index := Scalar.indexCast v22
  let c768_145 : Index := 768#32
  ![v404.toNat, 768]
def k0_off8 (k0_t1 : Fin k0_t1_loop.trips) : Fin 2 → Nat :=
  let c0_i32_9 : BitVec 32 := 0#32
  let c1_i32 : BitVec 32 := 1#32
  let arg17 : BitVec 32 := Scf.iv c0_i32_9 c1_i32 k0_t1
  let c256_i32 : BitVec 32 := 256#32
  let v21 : BitVec 32 := Scalar.muli arg17 c256_i32
  let v22 : BitVec 32 := v21
  let v411 : Index := Scalar.indexCast v22
  let c0_148 : Index := 0#32
  ![v411.toNat, 0]
def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

@[reducible] def k0_t2_loop : Scf.Loop 32 :=
  let c0_i32_12 : BitVec 32 := 0#32
  let c32_i32 : BitVec 32 := 32#32
  let v21 : BitVec 32 := Scalar.addi c0_i32_12 c32_i32
  let c1_i32_13 : BitVec 32 := 1#32
  ⟨c0_i32_12, v21, c1_i32_13⟩
def k0_mult2 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c32_i32_15 : BitVec 32 := 32#32
  let v22 : BitVec 32 := Scalar.muli arg17 c32_i32_15
  v22
def k0_off9 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c32_i32_15 : BitVec 32 := 32#32
  let v22 : BitVec 32 := Scalar.muli arg17 c32_i32_15
  let v23 : BitVec 32 := v22
  let v48 : Index := Scalar.indexCast v23
  let c0_32 : Index := 0#32
  ![v48.toNat, 0]
def k0_off10 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c32_i32_15 : BitVec 32 := 32#32
  let v22 : BitVec 32 := Scalar.muli arg17 c32_i32_15
  let v23 : BitVec 32 := v22
  let v51 : Index := Scalar.indexCast v23
  let c0_33 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S4 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x1280x2048 : Shape := ⟨3, ![8, 1280, 2048]⟩
abbrev S8x1280 : Shape := ⟨2, ![8, 1280]⟩
abbrev S2048x16384 : Shape := ⟨2, ![2048, 16384]⟩
abbrev S16384 : Shape := ⟨1, ![16384]⟩
abbrev S_ : Shape := ⟨0, ![]⟩
abbrev S16384x2048 : Shape := ⟨2, ![16384, 2048]⟩
abbrev S2048 : Shape := ⟨1, ![2048]⟩
abbrev S10240x2048 : Shape := ⟨2, ![10240, 2048]⟩
abbrev S10240x1 : Shape := ⟨2, ![10240, 1]⟩
abbrev S1x16384 : Shape := ⟨2, ![1, 16384]⟩
abbrev S1x1 : Shape := ⟨2, ![1, 1]⟩
abbrev S1x2048 : Shape := ⟨2, ![1, 2048]⟩
abbrev S10240x16384 : Shape := ⟨2, ![10240, 16384]⟩

abbrev nBuf : Space → Nat
  | .hbm => 29
  | .vmem => 15
  | .smem => 0
  | _ => 0

abbrev bufTy : (tb : Table) → Fin (tcTables nBuf tb) → BufTy
  | .hbm, ⟨0, _⟩ => ⟨S8x1280x2048, .i8⟩
  | .hbm, ⟨1, _⟩ => ⟨S8x1280, .i32⟩
  | .hbm, ⟨2, _⟩ => ⟨S2048x16384, .i8⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384x2048, .i8⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S10240x2048, .i8⟩
  | .hbm, ⟨17, _⟩ => ⟨S10240x1, .i32⟩
  | .hbm, ⟨18, _⟩ => ⟨S1x16384, .i32⟩
  | .hbm, ⟨19, _⟩ => ⟨S1x16384, .i32⟩
  | .hbm, ⟨20, _⟩ => ⟨S1x16384, .i32⟩
  | .hbm, ⟨21, _⟩ => ⟨S1x1, .i32⟩
  | .hbm, ⟨22, _⟩ => ⟨S1x1, .i32⟩
  | .hbm, ⟨23, _⟩ => ⟨S1x2048, .i32⟩
  | .hbm, ⟨24, _⟩ => ⟨S1x2048, .i32⟩
  | .hbm, ⟨25, _⟩ => ⟨S1x2048, .i32⟩
  | .hbm, ⟨26, _⟩ => ⟨S1x1, .i32⟩
  | .hbm, ⟨27, _⟩ => ⟨S10240x16384, .i8⟩
  | .hbm, ⟨28, _⟩ => ⟨S10240x2048, .i32⟩
  | .local _ .vmem, ⟨0, _⟩ => ⟨S10240x2048, .i8⟩
  | .local _ .vmem, ⟨1, _⟩ => ⟨S10240x1, .i32⟩
  | .local _ .vmem, ⟨2, _⟩ => ⟨S2048x16384, .i8⟩
  | .local _ .vmem, ⟨3, _⟩ => ⟨S1x16384, .i32⟩
  | .local _ .vmem, ⟨4, _⟩ => ⟨S1x16384, .i32⟩
  | .local _ .vmem, ⟨5, _⟩ => ⟨S1x16384, .i32⟩
  | .local _ .vmem, ⟨6, _⟩ => ⟨S1x1, .i32⟩
  | .local _ .vmem, ⟨7, _⟩ => ⟨S1x1, .i32⟩
  | .local _ .vmem, ⟨8, _⟩ => ⟨S16384x2048, .i8⟩
  | .local _ .vmem, ⟨9, _⟩ => ⟨S1x2048, .i32⟩
  | .local _ .vmem, ⟨10, _⟩ => ⟨S1x2048, .i32⟩
  | .local _ .vmem, ⟨11, _⟩ => ⟨S1x2048, .i32⟩
  | .local _ .vmem, ⟨12, _⟩ => ⟨S1x1, .i32⟩
  | .local _ .vmem, ⟨13, _⟩ => ⟨S10240x16384, .i8⟩
  | .local _ .vmem, ⟨14, _⟩ => ⟨S10240x2048, .i32⟩
  | _, _ => ⟨S8x1280x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S10240x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S10240x16384 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S10240x2048 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelPoint.lean ====
/- The grid points of the kernel: which conditionals run at a point, which windows are idle there,
   the staging buffers of a point and the scratch buffers. -/
module

public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1024x2048 .i8 := (Memref.whole cc0_stg8_0 : Memref sig .tc .vmem S1024x2048 .i8).view
/-- One staging buffer of output window 9, through which its contents are stated (`View.read_writes_of_cover`: the
    choice does not matter). -/
abbrev VO0_9 : View sig .tc .vmem S1024x1024 .i8 := (Memref.whole cc0_stg9_0 : Memref sig .tc .vmem S1024x1024 .i8).view
/-- One staging buffer of output window 10, through which its contents are stated (`View.read_writes_of_cover`: the
    choice does not matter). -/
abbrev VO0_10 : View sig .tc .vmem S1024x2048 .i32 := (Memref.whole cc0_stg10_0 : Memref sig .tc .vmem S1024x2048 .i32).view
/-- Each window's current staging memref at point `t`, spelled as the pipeline passes it (`bodyAt0`), and its wholeness. -/
abbrev ms0_0 (t : Fin cfg0.N) : Memref sig .tc .vmem S1024x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2048 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S4 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .i32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x2048 .bf16 := Memref.whole cc0_scratch0
abbrev scM0_1 : Memref sig .tc .vmem S2048x1024 .bf16 := Memref.whole cc0_scratch1
abbrev scM0_2 : Memref sig .tc .vmem S1024x2048 .bf16 := Memref.whole cc0_scratch2
abbrev scM0_3 : Memref sig .tc .vmem S256x1024 .bf16 := Memref.whole cc0_scratch3
/-- The scratch `arg13` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelTile.lean ====
module

public import proofs.«01_k».proof.Proof.Gen.Kernel.Loops
public import Idealize.ShloMosaic.Lib.VecWindow
public import Idealize.ShloMosaic.Lib.WritesUnit
public import Idealize.ShloMosaic.Lib.Pipeline.Value
public import Idealize.ShloMosaic.Lib.KernelVsHost

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.ValueIdx

variable {F : FTy → Type} [FloatOps F]

/-- The 32-bit words of one 256 by 256 tile of the activation, before they are narrowed: from the two halves of the
    rows of `x` and of the columns of the first weight, the rows' exponents, and the tile's three rows of parameters. -/
def tileOf (v13 v14 v15 v16 : Elt F .i32) (e : Vec F S256x128 .i32) (a0 : Vec F S256x1024 .bf16) (b0 : Vec F S1024x256 .bf16)
    (a1 : Vec F S256x1024 .bf16) (b1 : Vec F S1024x256 .bf16) (m k b : Vec F S1x256 .i32) : IVec S256x256 32 :=
  k0_pay40 v13 v14 v15 v16 (k0_pay39 (k0_pay8 e) k0_pay38 a0 b0 a1 b1 m k b)

/-- A tile as int8 codes. -/
def codesOf (t : IVec S256x256 32) : IVec S256x256 8 := trunci 8 t natLt_8_32

/-- A tile as the operand of the second product. -/
def operandOf (t : IVec S256x256 32) : FVec F S256x256 .bf16 := k0_pay5 t

set_option maxHeartbeats 4000000 in
theorem trip1_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).1 =
      [⟨Rect.unit (s := S1024x1024) (k0_off7 k) S256x256.size (k0_off7_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩,
       ⟨Rect.unit (s := S1024x1024) (k0_off6 k) S256x256.size (k0_off6_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩,
       ⟨Rect.unit (s := S1024x1024) (k0_off5 k) S256x256.size (k0_off5_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩,
       ⟨Rect.unit (s := S1024x1024) (k0_off4 k) S256x256.size (k0_off4_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] := by
  unfold tripL_k0_t1 trip_k0_t1
  dsimp only
  refine congr (congrArg List.cons ?_) (congr (congrArg List.cons ?_) (congr (congrArg List.cons ?_) (congr (congrArg List.cons ?_) rfl)))
  · rfl
  · rfl
  · rfl
  · rfl

set_option maxHeartbeats 4000000 in
theorem trip1_thd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.2 = [⟨Rect.unit (s := S256x1024) ![0, 768] S256x256.size inb_S256x1024_S256x256_0_768, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S256x1024) ![0, 512] S256x256.size inb_S256x1024_S256x256_0_512, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S256x1024) ![0, 256] S256x256.size inb_S256x1024_S256x256_0_256, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S256x1024) ![0, 0] S256x256.size inb_S256x1024_S256x256_0_0, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] := by
  unfold tripL_k0_t1 trip_k0_t1
  dsimp only
  delta trip_k0_t1.sl.HW_arg16_4
  refine congr (congrArg List.cons ?_) (congr (congrArg List.cons ?_) (congr (congrArg List.cons ?_) (congr (congrArg List.cons ?_) rfl)))
  · rfl
  · rfl
  · rfl
  · rfl

set_option maxHeartbeats 4000000 in
theorem trip1_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.1 = [⟨Rect.unit (s := S1024x2048) (k0_off8 k) S256x2048.size (k0_off8_inb k),
      k0_pay6 (View.readAt (Elt F) arg12.view (Rect.unit (s := S1024x2048) (k0_off8 k) S256x2048.size (k0_off8_inb k)).toLoadRect f_arg12)
        (arg16.view.readCov (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.2 (Rect.unit (s := S256x1024) ![0, 0] S256x1024.size inb_S256x1024_S256x1024_0_0).toLoadRect)
        (View.readAt (Elt F) arg15.view (Rect.unit (s := S1024x2048) ![0, 0] S1024x2048.size inb_S1024x2048_S1024x2048_0_0).toLoadRect X_arg15)⟩] := by
  unfold tripL_k0_t1 trip_k0_t1
  rfl

theorem inbE (k : Fin 4) (a : Fin 2) : (![256 * k.val, 0] : Fin 2 → ℕ) a + S256x128.size a ≤ S1024x128.size a := by
  revert k a; decide +kernel
theorem inbX0 (k : Fin 4) (a : Fin 2) : (![256 * k.val, 0] : Fin 2 → ℕ) a + S256x1024.size a ≤ S1024x2048.size a := by
  revert k a; decide +kernel
theorem inbX1 (k : Fin 4) (a : Fin 2) : (![256 * k.val, 1024] : Fin 2 → ℕ) a + S256x1024.size a ≤ S1024x2048.size a := by
  revert k a; decide +kernel
theorem inbW0 (n : Fin 4) (a : Fin 2) : (![0, 256 * n.val] : Fin 2 → ℕ) a + S1024x256.size a ≤ S2048x1024.size a := by
  revert n a; decide +kernel
theorem inbW1 (n : Fin 4) (a : Fin 2) : (![1024, 256 * n.val] : Fin 2 → ℕ) a + S1024x256.size a ≤ S2048x1024.size a := by
  revert n a; decide +kernel
theorem inbP (r : Fin 8) (n : Fin 4) (a : Fin 2) : (![r.val, 256 * n.val] : Fin 2 → ℕ) a + S1x256.size a ≤ S8x1024.size a := by
  revert r n a; decide +kernel
theorem inbZ (k : Fin 4) (a : Fin 2) : (![256 * k.val, 0] : Fin 2 → ℕ) a + S256x2048.size a ≤ S1024x2048.size a := by
  revert k a; decide +kernel

/-- The tile of row band `k` and column band `n`, as a function of the whole staged blocks. -/
def tile (v13 v14 v15 v16 : Elt F .i32) (x1 : Vec F S1024x128 .i32) (xb : Vec F S1024x2048 .bf16) (w1b : Vec F S2048x1024 .bf16)
    (x4 : Vec F S8x1024 .i32) (k n : Fin 4) : IVec S256x256 32 :=
  tileOf (F := F) v13 v14 v15 v16 (VecWindow.window x1 ![256 * k.val, 0] S256x128.size (inbE k))
    (VecWindow.window xb ![256 * k.val, 0] S256x1024.size (inbX0 k)) (VecWindow.window w1b ![0, 256 * n.val] S1024x256.size (inbW0 n))
    (VecWindow.window xb ![256 * k.val, 1024] S256x1024.size (inbX1 k)) (VecWindow.window w1b ![1024, 256 * n.val] S1024x256.size (inbW1 n))
    (VecWindow.window x4 ![(0 : Fin 8).val, 256 * n.val] S1x256.size (inbP 0 n)) (VecWindow.window x4 ![(1 : Fin 8).val, 256 * n.val] S1x256.size (inbP 1 n))
    (VecWindow.window x4 ![(2 : Fin 8).val, 256 * n.val] S1x256.size (inbP 2 n))

/-- The four tiles of a row band side by side, as the operand of the second product. -/
def bandOf (T : Fin 4 → IVec S256x256 32) : Vec F S256x1024 .bf16 := fun j =>
  operandOf (F := F) (T ⟨(j 1).val / 256, by have : (j 1).val < 1024 := (j 1).isLt; omega⟩)
    (ix2 (n0 := 256) (n1 := 256) (j 0) ⟨(j 1).val % 256, Nat.mod_lt _ (by decide)⟩)

/-- The codes of the staged block of the activation. -/
def codesBlock (T : Fin 4 → Fin 4 → IVec S256x256 32) : Vec F S1024x1024 .i8 := fun j =>
  codesOf (T ⟨(j 0).val / 256, by have : (j 0).val < 1024 := (j 0).isLt; omega⟩ ⟨(j 1).val / 256, by have : (j 1).val < 1024 := (j 1).isLt; omega⟩)
    (ix2 (n0 := 256) (n1 := 256) ⟨(j 0).val % 256, Nat.mod_lt _ (by decide)⟩ ⟨(j 1).val % 256, Nat.mod_lt _ (by decide)⟩)

section Trip
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)

/-- A trip's number, below four. -/
def num (k : Fin k0_t1_loop.trips) : Fin 4 := ⟨k.val, Nat.lt_of_lt_of_le k.isLt k0_t1_abs.2.1⟩

variable (k : Fin k0_t1_loop.trips)

theorem tile_eq0 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6)) = tile (F := F) v13 v14 v15 v16 (arg3.view.read (Elt F) X_arg3) (arg13.view.read (Elt F) X_arg13) (arg14.view.read (Elt F) X_arg14) (arg6.view.read (Elt F) X_arg6) (num k) 0 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_0 rfl (inbW0 0), View.readAt_unit arg14.view X_arg14 inb_S2048x1024_S1024x256_1024_0 rfl (inbW1 0), View.readAt_unit arg6.view X_arg6 inb_S8x1024_S1x256_0_0 rfl (inbP 0 0), View.readAt_unit arg6.view X_arg6 inb_S8x1024_S1x256_1_0 rfl (inbP 1 0), View.readAt_unit arg6.view X_arg6 inb_S8x1024_S1x256_2_0 rfl (inbP 2 0)]
  rfl

theorem tile_eq1 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6)) = tile (F := F) v13 v14 v15 v16 (arg3.view.read (Elt F) X_arg3) (arg13.view.read (Elt F) X_arg13) (arg14.view.read (Elt F) X_arg14) (arg6.view.read (Elt F) X_arg6) (num k) 1 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_256 rfl (inbW0 1), View.readAt_unit arg14.view X_arg14 inb_S2048x1024_S1024x256_1024_256 rfl (inbW1 1), View.readAt_unit arg6.view X_arg6 inb_S8x1024_S1x256_0_256 rfl (inbP 0 1), View.readAt_unit arg6.view X_arg6 inb_S8x1024_S1x256_1_256 rfl (inbP 1 1), View.readAt_unit arg6.view X_arg6 inb_S8x1024_S1x256_2_256 rfl (inbP 2 1)]
  rfl

theorem tile_eq2 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6)) = tile (F := F) v13 v14 v15 v16 (arg3.view.read (Elt F) X_arg3) (arg13.view.read (Elt F) X_arg13) (arg14.view.read (Elt F) X_arg14) (arg6.view.read (Elt F) X_arg6) (num k) 2 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_512 rfl (inbW0 2), View.readAt_unit arg14.view X_arg14 inb_S2048x1024_S1024x256_1024_512 rfl (inbW1 2), View.readAt_unit arg6.view X_arg6 inb_S8x1024_S1x256_0_512 rfl (inbP 0 2), View.readAt_unit arg6.view X_arg6 inb_S8x1024_S1x256_1_512 rfl (inbP 1 2), View.readAt_unit arg6.view X_arg6 inb_S8x1024_S1x256_2_512 rfl (inbP 2 2)]
  rfl

theorem tile_eq3 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6)) = tile (F := F) v13 v14 v15 v16 (arg3.view.read (Elt F) X_arg3) (arg13.view.read (Elt F) X_arg13) (arg14.view.read (Elt F) X_arg14) (arg6.view.read (Elt F) X_arg6) (num k) 3 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_768 rfl (inbW0 3), View.readAt_unit arg14.view X_arg14 inb_S2048x1024_S1024x256_1024_768 rfl (inbW1 3), View.readAt_unit arg6.view X_arg6 inb_S8x1024_S1x256_0_768 rfl (inbP 0 3), View.readAt_unit arg6.view X_arg6 inb_S8x1024_S1x256_1_768 rfl (inbP 1 3), View.readAt_unit arg6.view X_arg6 inb_S8x1024_S1x256_2_768 rfl (inbP 2 3)]
  rfl

end Trip

end Cert.Kernel.Hand

end
-- ==== Proof.KernelLoop1.lean ====
module

public import proofs.«01_k».proof.Proof.KernelTile
public import Idealize.ShloMosaic.Lib.VecWindow
public import Idealize.ShloMosaic.Lib.WritesUnit
public import Idealize.ShloMosaic.Lib.Pipeline.Value
public import Idealize.ShloMosaic.Lib.KernelVsHost

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.ValueIdx

variable {F : FTy → Type} [FloatOps F]

theorem pb1_succ_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (k : Fin k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (k.val + 1)).1 = [⟨Rect.unit (s := S1024x1024) (k0_off7 k) S256x256.size (k0_off7_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S1024x1024) (k0_off6 k) S256x256.size (k0_off6_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S1024x1024) (k0_off5 k) S256x256.size (k0_off5_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S1024x1024) (k0_off4 k) S256x256.size (k0_off4_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).1 := by
  rw [pb_k0_t1_succ]
  exact congrArg (· ++ _) (trip1_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k _ _ _)

theorem pb1_succ_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (k : Fin k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (k.val + 1)).2.1 = [⟨Rect.unit (s := S1024x2048) (k0_off8 k) S256x2048.size (k0_off8_inb k),
      k0_pay6 (View.readAt (Elt F) arg12.view (Rect.unit (s := S1024x2048) (k0_off8 k) S256x2048.size (k0_off8_inb k)).toLoadRect (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).2.1))
        (arg16.view.readCov [⟨Rect.unit (s := S256x1024) ![0, 768] S256x256.size inb_S256x1024_S256x256_0_768, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S256x1024) ![0, 512] S256x256.size inb_S256x1024_S256x256_0_512, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S256x1024) ![0, 256] S256x256.size inb_S256x1024_S256x256_0_256, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S256x1024) ![0, 0] S256x256.size inb_S256x1024_S256x256_0_0, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] (Rect.unit (s := S256x1024) ![0, 0] S256x1024.size inb_S256x1024_S256x1024_0_0).toLoadRect)
        (View.readAt (Elt F) arg15.view (Rect.unit (s := S1024x2048) ![0, 0] S1024x2048.size inb_S1024x2048_S1024x2048_0_0).toLoadRect X_arg15)⟩] ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).2.1 := by
  rw [pb_k0_t1_succ]
  refine congrArg (· ++ _) ((trip1_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k _ _ _).trans ?_)
  rw [trip1_thd]

/-- The sums of the second product after one more column band: the old sums plus the product, band by band of rows. -/
def accBlock (old : Vec F S1024x2048 .i32) (w2b : Vec F S1024x2048 .bf16) (T : Fin 4 → Fin 4 → IVec S256x256 32) : Vec F S1024x2048 .i32 := fun j =>
  k0_pay6 (VecWindow.window old ![256 * (⟨(j 0).val / 256, by have : (j 0).val < 1024 := (j 0).isLt; omega⟩ : Fin 4).val, 0] S256x2048.size (inbZ _))
    (bandOf (F := F) (T ⟨(j 0).val / 256, by have : (j 0).val < 1024 := (j 0).isLt; omega⟩)) w2b
    (ix2 (n0 := 256) (n1 := 2048) ⟨(j 0).val % 256, Nat.mod_lt _ (by decide)⟩ (j 1))

theorem accBlock_eq (old : Vec F S1024x2048 .i32) (w2b : Vec F S1024x2048 .bf16) (T : Fin 4 → Fin 4 → IVec S256x256 32) (j : S1024x2048.Idx)
    (k : Fin 4) (hk : k = ⟨(j 0).val / 256, by have : (j 0).val < 1024 := (j 0).isLt; omega⟩) :
    accBlock (F := F) old w2b T j = k0_pay6 (VecWindow.window old ![256 * k.val, 0] S256x2048.size (inbZ k)) (bandOf (F := F) (T k)) w2b
      (ix2 (n0 := 256) (n1 := 2048) ⟨(j 0).val % 256, Nat.mod_lt _ (by decide)⟩ (j 1)) := by
  subst hk; rfl

section Loop
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty)

theorem loop1_read11 (n : ℕ) (hn : n ≤ 4) (j : S1024x1024.Idx) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).1) j
      = if (j 0).val < 256 * n then codesBlock (F := F) (tile (F := F) v13 v14 v15 v16 (arg3.view.read (Elt F) X_arg3) (arg13.view.read (Elt F) X_arg13) (arg14.view.read (Elt F) X_arg14) (arg6.view.read (Elt F) X_arg6)) j else arg11.view.read (Elt F) G_arg11 j := by
  have hj1 : (j 1).val < 1024 := (j 1).isLt
  have hj0 : (j 0).val < 1024 := (j 0).isLt
  induction n with
  | zero => rw [if_neg (by omega)]; rfl
  | succ n ih =>
    have hl : n < k0_t1_loop.trips := by have : k0_t1_loop.trips = 4 := by decide +kernel
                                         omega
    have ih := ih (by omega)
    rw [show (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (n + 1)).1 = _ from pb1_succ_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 ⟨n, hl⟩]
    rw [tile_eq0, tile_eq1, tile_eq2, tile_eq3]
    have e4 : k0_off4 ⟨n, hl⟩ = ![256 * n, 0] := k0_off4_eq _
    have e5 : k0_off5 ⟨n, hl⟩ = ![256 * n, 256] := k0_off5_eq _
    have e6 : k0_off6 ⟨n, hl⟩ = ![256 * n, 512] := k0_off6_eq _
    have e7 : k0_off7 ⟨n, hl⟩ = ![256 * n, 768] := k0_off7_eq _
    simp only [List.cons_append, List.nil_append]
    by_cases hb : 256 * n ≤ (j 0).val ∧ (j 0).val < 256 * n + 256
    · rw [if_pos (by omega)]
      have hk : (⟨(j 0).val / 256, by omega⟩ : Fin 4) = num ⟨n, hl⟩ := Fin.ext (by show (j 0).val / 256 = n; omega)
      unfold codesBlock
      rw [hk]
      have hm : (j 1).val < 256 ∨ (256 ≤ (j 1).val ∧ (j 1).val < 512) ∨ (512 ≤ (j 1).val ∧ (j 1).val < 768) ∨ 768 ≤ (j 1).val := by omega
      rcases hm with h | h | h | h
      · rw [View.read_writes_cons_unit_of_not_mem arg11.view G_arg11 _ _ _ j e7 1 (.inl (show (j 1).val < 768 by omega)),
          View.read_writes_cons_unit_of_not_mem arg11.view G_arg11 _ _ _ j e6 1 (.inl (show (j 1).val < 512 by omega)),
          View.read_writes_cons_unit_of_not_mem arg11.view G_arg11 _ _ _ j e5 1 (.inl (show (j 1).val < 256 by omega)),
          show (⟨(j 1).val / 256, by omega⟩ : Fin 4) = 0 from Fin.ext (by show (j 1).val / 256 = 0; omega)]
        refine View.read_writes_cons_unit_of_mem arg11.view G_arg11 _ _ _ j _ e4 fun a => ?_
        match a with
        | 0 => show (j 0).val = 256 * n + (j 0).val % 256; omega
        | 1 => show (j 1).val = 0 + (j 1).val % 256; omega
      · rw [View.read_writes_cons_unit_of_not_mem arg11.view G_arg11 _ _ _ j e7 1 (.inl (show (j 1).val < 768 by omega)),
          View.read_writes_cons_unit_of_not_mem arg11.view G_arg11 _ _ _ j e6 1 (.inl (show (j 1).val < 512 by omega)),
          show (⟨(j 1).val / 256, by omega⟩ : Fin 4) = 1 from Fin.ext (by show (j 1).val / 256 = 1; omega)]
        refine View.read_writes_cons_unit_of_mem arg11.view G_arg11 _ _ _ j _ e5 fun a => ?_
        match a with
        | 0 => show (j 0).val = 256 * n + (j 0).val % 256; omega
        | 1 => show (j 1).val = 256 + (j 1).val % 256; omega
      · rw [View.read_writes_cons_unit_of_not_mem arg11.view G_arg11 _ _ _ j e7 1 (.inl (show (j 1).val < 768 by omega)),
          show (⟨(j 1).val / 256, by omega⟩ : Fin 4) = 2 from Fin.ext (by show (j 1).val / 256 = 2; omega)]
        refine View.read_writes_cons_unit_of_mem arg11.view G_arg11 _ _ _ j _ e6 fun a => ?_
        match a with
        | 0 => show (j 0).val = 256 * n + (j 0).val % 256; omega
        | 1 => show (j 1).val = 512 + (j 1).val % 256; omega
      · rw [show (⟨(j 1).val / 256, by omega⟩ : Fin 4) = 3 from Fin.ext (by show (j 1).val / 256 = 3; omega)]
        refine View.read_writes_cons_unit_of_mem arg11.view G_arg11 _ _ _ j _ e7 fun a => ?_
        match a with
        | 0 => show (j 0).val = 256 * n + (j 0).val % 256; omega
        | 1 => show (j 1).val = 768 + (j 1).val % 256; omega
    · have hb' : (j 0).val < 256 * n ∨ 256 * n + 256 ≤ (j 0).val := by omega
      rw [View.read_writes_cons_unit_of_not_mem arg11.view G_arg11 _ _ _ j e7 0 ?_,
        View.read_writes_cons_unit_of_not_mem arg11.view G_arg11 _ _ _ j e6 0 ?_,
        View.read_writes_cons_unit_of_not_mem arg11.view G_arg11 _ _ _ j e5 0 ?_,
        View.read_writes_cons_unit_of_not_mem arg11.view G_arg11 _ _ _ j e4 0 ?_, ih]
      rotate_left
      · exact hb'
      · exact hb'
      · exact hb'
      · exact hb'
      by_cases h0 : (j 0).val < 256 * n
      · rw [if_pos h0, if_pos (by omega)]
      · rw [if_neg h0, if_neg (by omega)]

/-- The covered load of the band's operand: the four tiles side by side. -/
theorem band_readCov (T : Fin 4 → IVec S256x256 32) :
    arg16.view.readCov [⟨Rect.unit (s := S256x1024) ![0, 768] S256x256.size inb_S256x1024_S256x256_0_768, operandOf (F := F) (T 3)⟩,
      ⟨Rect.unit (s := S256x1024) ![0, 512] S256x256.size inb_S256x1024_S256x256_0_512, operandOf (F := F) (T 2)⟩,
      ⟨Rect.unit (s := S256x1024) ![0, 256] S256x256.size inb_S256x1024_S256x256_0_256, operandOf (F := F) (T 1)⟩,
      ⟨Rect.unit (s := S256x1024) ![0, 0] S256x256.size inb_S256x1024_S256x256_0_0, operandOf (F := F) (T 0)⟩]
      (Rect.unit (s := S256x1024) ![0, 0] S256x1024.size inb_S256x1024_S256x1024_0_0).toLoadRect = bandOf (F := F) T := by
  refine (View.readAt_full arg16.view _ inb_S256x1024_S256x1024_0_0).trans ?_
  funext j
  have hj1 : (j 1).val < 1024 := (j 1).isLt
  have hj0 : (j 0).val < 256 := (j 0).isLt
  unfold bandOf
  have hm : (j 1).val < 256 ∨ (256 ≤ (j 1).val ∧ (j 1).val < 512) ∨ (512 ≤ (j 1).val ∧ (j 1).val < 768) ∨ 768 ≤ (j 1).val := by omega
  rcases hm with h | h | h | h
  · rw [View.read_writes_cons_unit_of_not_mem arg16.view _ _ _ _ j rfl 1 (.inl (show (j 1).val < 768 by omega)),
      View.read_writes_cons_unit_of_not_mem arg16.view _ _ _ _ j rfl 1 (.inl (show (j 1).val < 512 by omega)),
      View.read_writes_cons_unit_of_not_mem arg16.view _ _ _ _ j rfl 1 (.inl (show (j 1).val < 256 by omega)),
      show (⟨(j 1).val / 256, by omega⟩ : Fin 4) = 0 from Fin.ext (by show (j 1).val / 256 = 0; omega)]
    refine View.read_writes_cons_unit_of_mem arg16.view _ _ _ _ j _ rfl fun a => ?_
    match a with
    | 0 => show (j 0).val = 0 + (j 0).val; omega
    | 1 => show (j 1).val = 0 + (j 1).val % 256; omega
  · rw [View.read_writes_cons_unit_of_not_mem arg16.view _ _ _ _ j rfl 1 (.inl (show (j 1).val < 768 by omega)),
      View.read_writes_cons_unit_of_not_mem arg16.view _ _ _ _ j rfl 1 (.inl (show (j 1).val < 512 by omega)),
      show (⟨(j 1).val / 256, by omega⟩ : Fin 4) = 1 from Fin.ext (by show (j 1).val / 256 = 1; omega)]
    refine View.read_writes_cons_unit_of_mem arg16.view _ _ _ _ j _ rfl fun a => ?_
    match a with
    | 0 => show (j 0).val = 0 + (j 0).val; omega
    | 1 => show (j 1).val = 256 + (j 1).val % 256; omega
  · rw [View.read_writes_cons_unit_of_not_mem arg16.view _ _ _ _ j rfl 1 (.inl (show (j 1).val < 768 by omega)),
      show (⟨(j 1).val / 256, by omega⟩ : Fin 4) = 2 from Fin.ext (by show (j 1).val / 256 = 2; omega)]
    refine View.read_writes_cons_unit_of_mem arg16.view _ _ _ _ j _ rfl fun a => ?_
    match a with
    | 0 => show (j 0).val = 0 + (j 0).val; omega
    | 1 => show (j 1).val = 512 + (j 1).val % 256; omega
  · rw [show (⟨(j 1).val / 256, by omega⟩ : Fin 4) = 3 from Fin.ext (by show (j 1).val / 256 = 3; omega)]
    refine View.read_writes_cons_unit_of_mem arg16.view _ _ _ _ j _ rfl fun a => ?_
    match a with
    | 0 => show (j 0).val = 0 + (j 0).val; omega
    | 1 => show (j 1).val = 768 + (j 1).val % 256; omega

theorem loop1_read12 (n : ℕ) (hn : n ≤ 4) (j : S1024x2048.Idx) :
    arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1) j
      = if (j 0).val < 256 * n then accBlock (F := F) (arg12.view.read (Elt F) G_arg12) (arg15.view.read (Elt F) X_arg15) (tile (F := F) v13 v14 v15 v16 (arg3.view.read (Elt F) X_arg3) (arg13.view.read (Elt F) X_arg13) (arg14.view.read (Elt F) X_arg14) (arg6.view.read (Elt F) X_arg6)) j else arg12.view.read (Elt F) G_arg12 j := by
  induction n generalizing j with
  | zero => rw [if_neg (by omega)]; rfl
  | succ n ih =>
    have hj0 : (j 0).val < 1024 := (j 0).isLt
    have hl : n < k0_t1_loop.trips := by have : k0_t1_loop.trips = 4 := by decide +kernel
                                         omega
    have ih := fun j => ih (by omega) j
    rw [show (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (n + 1)).2.1 = _ from pb1_succ_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 ⟨n, hl⟩]
    rw [tile_eq0, tile_eq1, tile_eq2, tile_eq3, band_readCov arg16 (tile (F := F) v13 v14 v15 v16 (arg3.view.read (Elt F) X_arg3) (arg13.view.read (Elt F) X_arg13) (arg14.view.read (Elt F) X_arg14) (arg6.view.read (Elt F) X_arg6) (num ⟨n, hl⟩)),
      View.readAt_full arg15.view X_arg15 inb_S1024x2048_S1024x2048_0_0]
    have e8 : k0_off8 ⟨n, hl⟩ = ![256 * n, 0] := k0_off8_eq _
    simp only [List.cons_append, List.nil_append]
    by_cases hb : 256 * n ≤ (j 0).val ∧ (j 0).val < 256 * n + 256
    · rw [if_pos (by omega)]
      have hk : (⟨(j 0).val / 256, by omega⟩ : Fin 4) = num ⟨n, hl⟩ := Fin.ext (by show (j 0).val / 256 = n; omega)
      have hw : VecWindow.window (arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1)) ![256 * (num ⟨n, hl⟩).val, 0] S256x2048.size (inbZ (num ⟨n, hl⟩))
          = VecWindow.window (arg12.view.read (Elt F) G_arg12) ![256 * (num ⟨n, hl⟩).val, 0] S256x2048.size (inbZ (num ⟨n, hl⟩)) := by
        funext y
        refine (ih _).trans (if_neg ?_)
        show ¬ (256 * n + 1 * (y 0).val < 256 * n)
        omega
      rw [accBlock_eq _ _ _ j (num ⟨n, hl⟩) hk.symm]
      refine (View.read_writes_cons_unit_of_mem arg12.view G_arg12 _ _ _ j (ix2 (n0 := 256) (n1 := 2048) ⟨(j 0).val % 256, Nat.mod_lt _ (by decide)⟩ (j 1)) e8 fun a => ?_).trans ?_
      · match a with
        | 0 => show (j 0).val = 256 * n + (j 0).val % 256; omega
        | 1 => show (j 1).val = 0 + (j 1).val; omega
      · exact congrArg (fun o => k0_pay6 o _ _ _) ((View.readAt_unit arg12.view _ (k0_off8_inb ⟨n, hl⟩) (k0_off8_eq ⟨n, hl⟩) (inbZ (num ⟨n, hl⟩))).trans hw)
    · have hb' : (j 0).val < 256 * n ∨ 256 * n + 256 ≤ (j 0).val := by omega
      rw [View.read_writes_cons_unit_of_not_mem arg12.view G_arg12 _ _ _ j e8 0 ?_, ih]
      rotate_left
      · exact hb'
      by_cases h0 : (j 0).val < 256 * n
      · rw [if_pos h0, if_pos (by omega)]
      · rw [if_neg h0, if_neg (by omega)]

end Loop

end Cert.Kernel.Hand

end
-- ==== Proof.KernelLoop2.lean ====
/- The second loop of the kernel body: the second dyadic rescaling with the residual, and the layer norm,
   32 rows at a time. -/
module

public import proofs.«01_k».proof.Proof.KernelLoop1

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- 32 rows of the residual stream: the accumulated products rescaled by the column's dyadic factor, plus the rows of
    `x` times the row's power of two, plus the column's offset. -/
def finishRows (w0 w1 w2 w3 : Vec F S1x2048 .i32) (e : Vec F S32x1 .i32) (x : Vec F S32x2048 .i8) (old : Vec F S32x2048 .i32) : IVec S32x2048 32 :=
  k0_pay54 (k0_pay42 w0) (k0_pay43 w1) (k0_pay44 w2) (k0_pay45 w3) (k0_pay50 w1) (k0_pay52 e) (k0_pay53 x) old

/-- 32 rows of the last result: the layer norm of the rows of the residual stream, rescaled and clamped to int8. -/
def normRows (w0 w1 w2 w3 w4 w5 w6 w7 : Vec F S1x2048 .i32) (e : Vec F S32x1 .i32) (x : Vec F S32x2048 .i8) (old : Vec F S32x2048 .i32) : IVec S32x2048 8 :=
  k0_pay7 (k0_pay60 (F := F) (k0_pay46 w4) (k0_pay47 w5) (k0_pay48 w6) (k0_pay49 w7) (k0_pay51 w5) (k0_pay55 (k0_pay42 w0) (k0_pay43 w1) (k0_pay44 w2) (k0_pay45 w3) (k0_pay50 w1) (k0_pay52 e) (k0_pay53 x) old)
    (k0_pay56 (k0_pay42 w0) (k0_pay43 w1) (k0_pay44 w2) (k0_pay45 w3) (k0_pay50 w1) (k0_pay52 e) (k0_pay53 x) old) (k0_pay57 (k0_pay42 w0) (k0_pay43 w1) (k0_pay44 w2) (k0_pay45 w3) (k0_pay50 w1) (k0_pay52 e) (k0_pay53 x) old) (k0_pay58 (k0_pay42 w0) (k0_pay43 w1) (k0_pay44 w2) (k0_pay45 w3) (k0_pay50 w1) (k0_pay52 e) (k0_pay53 x) old) (k0_pay59 (k0_pay42 w0) (k0_pay43 w1) (k0_pay44 w2) (k0_pay45 w3) (k0_pay50 w1) (k0_pay52 e) (k0_pay53 x) old)) k0_pay61

set_option maxHeartbeats 4000000 in
theorem trip2_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (k : Fin k0_t2_loop.trips) (f_arg10 : BufTy.Contents (Elt F) arg10.view.ty) (f_arg12 : BufTy.Contents (Elt F) arg12.view.ty) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k f_arg10 f_arg12).2 = [⟨Rect.unit (s := S1024x2048) (k0_off10 k) S32x2048.size (k0_off10_inb i k k0_h2), finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect f_arg12)⟩] := by
  unfold tripL_k0_t2 trip_k0_t2
  rfl

set_option maxHeartbeats 4000000 in
theorem trip2_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (k : Fin k0_t2_loop.trips) (f_arg10 : BufTy.Contents (Elt F) arg10.view.ty) (f_arg12 : BufTy.Contents (Elt F) arg12.view.ty) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k f_arg10 f_arg12).1 = [⟨Rect.unit (s := S1024x2048) (k0_off10 k) S32x2048.size (k0_off10_inb i k k0_h2), normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect f_arg12)⟩] := by
  unfold tripL_k0_t2 trip_k0_t2
  rfl

theorem inbQ (r : Fin 8) (a : Fin 2) : (![r.val, 0] : Fin 2 → ℕ) a + S1x2048.size a ≤ S8x2048.size a := by
  revert r a; decide +kernel
theorem inbS (k : Fin 32) (a : Fin 2) : (![32 * k.val, 0] : Fin 2 → ℕ) a + S32x1.size a ≤ S1024x128.size a := by
  revert k a; decide +kernel
theorem inbR (k : Fin 32) (a : Fin 2) : (![32 * k.val, 0] : Fin 2 → ℕ) a + S32x2048.size a ≤ S1024x2048.size a := by
  revert k a; decide +kernel
/-- A trip of the second loop as a number below 32. -/
def num2 (k : Fin k0_t2_loop.trips) : Fin 32 := ⟨k.val, Nat.lt_of_lt_of_le k.isLt k0_t2_abs.2.1⟩

/-- 32 rows of the residual stream, from the whole blocks. -/
def zBlockWin (p : Vec F S8x2048 .i32) (sh : Vec F S1024x128 .i32) (x : Vec F S1024x2048 .i8) (old : Vec F S1024x2048 .i32) (k : Fin 32) : Vec F S32x2048 .i32 :=
  finishRows (F := F) (VecWindow.window p ![0, 0] S1x2048.size (inbQ 0)) (VecWindow.window p ![1, 0] S1x2048.size (inbQ 1)) (VecWindow.window p ![2, 0] S1x2048.size (inbQ 2)) (VecWindow.window p ![3, 0] S1x2048.size (inbQ 3)) (VecWindow.window sh ![32 * k.val, 0] S32x1.size (inbS k))
    (VecWindow.window x ![32 * k.val, 0] S32x2048.size (inbR k)) (VecWindow.window old ![32 * k.val, 0] S32x2048.size (inbR k))

/-- The block of the residual stream, 32 rows at a time. -/
def zBlock (p : Vec F S8x2048 .i32) (sh : Vec F S1024x128 .i32) (x : Vec F S1024x2048 .i8) (old : Vec F S1024x2048 .i32) : Vec F S1024x2048 .i32 := fun j =>
  zBlockWin p sh x old ⟨(j 0).val / 32, by have : (j 0).val < 1024 := (j 0).isLt; omega⟩ (ix2 (n0 := 32) (n1 := 2048) ⟨(j 0).val % 32, Nat.mod_lt _ (by decide)⟩ (j 1))

/-- 32 rows of the last result, from the whole blocks. -/
def outBlockWin (p : Vec F S8x2048 .i32) (sh : Vec F S1024x128 .i32) (x : Vec F S1024x2048 .i8) (old : Vec F S1024x2048 .i32) (k : Fin 32) : Vec F S32x2048 .i8 :=
  normRows (F := F) (VecWindow.window p ![0, 0] S1x2048.size (inbQ 0)) (VecWindow.window p ![1, 0] S1x2048.size (inbQ 1)) (VecWindow.window p ![2, 0] S1x2048.size (inbQ 2)) (VecWindow.window p ![3, 0] S1x2048.size (inbQ 3)) (VecWindow.window p ![4, 0] S1x2048.size (inbQ 4)) (VecWindow.window p ![5, 0] S1x2048.size (inbQ 5)) (VecWindow.window p ![6, 0] S1x2048.size (inbQ 6)) (VecWindow.window p ![7, 0] S1x2048.size (inbQ 7)) (VecWindow.window sh ![32 * k.val, 0] S32x1.size (inbS k))
    (VecWindow.window x ![32 * k.val, 0] S32x2048.size (inbR k)) (VecWindow.window old ![32 * k.val, 0] S32x2048.size (inbR k))

/-- The block of the last result, 32 rows at a time. -/
def outBlock (p : Vec F S8x2048 .i32) (sh : Vec F S1024x128 .i32) (x : Vec F S1024x2048 .i8) (old : Vec F S1024x2048 .i32) : Vec F S1024x2048 .i8 := fun j =>
  outBlockWin p sh x old ⟨(j 0).val / 32, by have : (j 0).val < 1024 := (j 0).isLt; omega⟩ (ix2 (n0 := 32) (n1 := 2048) ⟨(j 0).val % 32, Nat.mod_lt _ (by decide)⟩ (j 1))

theorem pb2_succ_arg12 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips) :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (k.val + 1)).2 = [⟨Rect.unit (s := S1024x2048) (k0_off10 k) S32x2048.size (k0_off10_inb i k k0_h2), finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2))⟩] ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2 := by
  rw [pb_k0_t2_succ]
  exact congrArg (· ++ _) (trip2_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k _ _)

theorem pb2_succ_arg10 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips) :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (k.val + 1)).1 = [⟨Rect.unit (s := S1024x2048) (k0_off10 k) S32x2048.size (k0_off10_inb i k k0_h2), normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2))⟩] ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).1 := by
  rw [pb_k0_t2_succ]
  exact congrArg (· ++ _) (trip2_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k _ _)

theorem zBlock_eq (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips)
    (hw : ∀ j : S1024x2048.Idx, 32 * k.val ≤ (j 0).val → arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) j = arg12.view.read (Elt F) G_arg12 j) :
    finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2)) = zBlockWin (F := F) (arg8.view.read (Elt F) X_arg8) (arg4.view.read (Elt F) X_arg4) (arg2.view.read (Elt F) X_arg2) (arg12.view.read (Elt F) G_arg12) (num2 k) := by
  unfold zBlockWin
  rw [View.readAt_unit arg8.view X_arg8 inb_S8x2048_S1x2048_0_0 rfl (inbQ 0), View.readAt_unit arg8.view X_arg8 inb_S8x2048_S1x2048_1_0 rfl (inbQ 1), View.readAt_unit arg8.view X_arg8 inb_S8x2048_S1x2048_2_0 rfl (inbQ 2), View.readAt_unit arg8.view X_arg8 inb_S8x2048_S1x2048_3_0 rfl (inbQ 3),
    View.readAt_unit arg4.view X_arg4 (k0_off9_inb i k k0_h2) (k0_off9_eq k) (inbS (num2 k)),
    View.readAt_unit arg2.view X_arg2 (k0_off10_inb i k k0_h2) (k0_off10_eq k) (inbR (num2 k)),
    View.readAt_unit arg12.view (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) (k0_off10_inb i k k0_h2) (k0_off10_eq k) (inbR (num2 k))]
  refine congrArg (finishRows (F := F) _ _ _ _ _ _) ?_
  funext y
  refine hw _ ?_
  show 32 * k.val ≤ 32 * k.val + 1 * (y 0).val
  omega

theorem outBlock_eq (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips)
    (hw : ∀ j : S1024x2048.Idx, 32 * k.val ≤ (j 0).val → arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) j = arg12.view.read (Elt F) G_arg12 j) :
    normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2)) = outBlockWin (F := F) (arg8.view.read (Elt F) X_arg8) (arg4.view.read (Elt F) X_arg4) (arg2.view.read (Elt F) X_arg2) (arg12.view.read (Elt F) G_arg12) (num2 k) := by
  unfold outBlockWin
  rw [View.readAt_unit arg8.view X_arg8 inb_S8x2048_S1x2048_0_0 rfl (inbQ 0), View.readAt_unit arg8.view X_arg8 inb_S8x2048_S1x2048_1_0 rfl (inbQ 1), View.readAt_unit arg8.view X_arg8 inb_S8x2048_S1x2048_2_0 rfl (inbQ 2), View.readAt_unit arg8.view X_arg8 inb_S8x2048_S1x2048_3_0 rfl (inbQ 3), View.readAt_unit arg8.view X_arg8 inb_S8x2048_S1x2048_4_0 rfl (inbQ 4), View.readAt_unit arg8.view X_arg8 inb_S8x2048_S1x2048_5_0 rfl (inbQ 5), View.readAt_unit arg8.view X_arg8 inb_S8x2048_S1x2048_6_0 rfl (inbQ 6), View.readAt_unit arg8.view X_arg8 inb_S8x2048_S1x2048_7_0 rfl (inbQ 7),
    View.readAt_unit arg4.view X_arg4 (k0_off9_inb i k k0_h2) (k0_off9_eq k) (inbS (num2 k)),
    View.readAt_unit arg2.view X_arg2 (k0_off10_inb i k k0_h2) (k0_off10_eq k) (inbR (num2 k)),
    View.readAt_unit arg12.view (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) (k0_off10_inb i k k0_h2) (k0_off10_eq k) (inbR (num2 k))]
  refine congrArg (normRows (F := F) _ _ _ _ _ _ _ _ _ _) ?_
  funext y
  refine hw _ ?_
  show 32 * k.val ≤ 32 * k.val + 1 * (y 0).val
  omega

section Loop2
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty)

theorem loop2_read12 (n : ℕ) (hn : n ≤ 32) (j : S1024x2048.Idx) :
    arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).2) j
      = if (j 0).val < 32 * n then zBlock (F := F) (arg8.view.read (Elt F) X_arg8) (arg4.view.read (Elt F) X_arg4) (arg2.view.read (Elt F) X_arg2) (arg12.view.read (Elt F) G_arg12) j else arg12.view.read (Elt F) G_arg12 j := by
  induction n generalizing j with
  | zero => rw [if_neg (by omega)]; rfl
  | succ n ih =>
    have hj0 : (j 0).val < 1024 := (j 0).isLt
    have hl : n < k0_t2_loop.trips := by have : k0_t2_loop.trips = 32 := by decide +kernel
                                         omega
    have ih := fun j => ih (by omega) j
    rw [show (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (n + 1)).2 = _ from pb2_succ_arg12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩]
    have e : k0_off10 ⟨n, hl⟩ = ![32 * n, 0] := k0_off10_eq _
    simp only [List.cons_append, List.nil_append]
    by_cases hb : 32 * n ≤ (j 0).val ∧ (j 0).val < 32 * n + 32
    · rw [if_pos (by omega)]
      have hk : (⟨(j 0).val / 32, by omega⟩ : Fin 32) = num2 ⟨n, hl⟩ := Fin.ext (by show (j 0).val / 32 = n; omega)
      unfold zBlock
      rw [hk]
      refine (View.read_writes_cons_unit_of_mem arg12.view G_arg12 _ _ _ j (ix2 (n0 := 32) (n1 := 2048) ⟨(j 0).val % 32, Nat.mod_lt _ (by decide)⟩ (j 1)) e fun a => ?_).trans ?_
      · match a with
        | 0 => show (j 0).val = 32 * n + (j 0).val % 32; omega
        | 1 => show (j 1).val = 0 + (j 1).val; omega
      · refine congrFun ?_ _
        exact zBlock_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩ (fun j hj => (ih j).trans (if_neg (by have h2 : 32 * n ≤ (j 0).val := hj; omega)))
    · have hb' : (j 0).val < 32 * n ∨ 32 * n + 32 ≤ (j 0).val := by omega
      rw [View.read_writes_cons_unit_of_not_mem arg12.view G_arg12 _ _ _ j e 0 ?_, ih]
      rotate_left
      · exact hb'
      by_cases h0 : (j 0).val < 32 * n
      · rw [if_pos h0, if_pos (by omega)]
      · rw [if_neg h0, if_neg (by omega)]

theorem loop2_read10 (n : ℕ) (hn : n ≤ 32) (j : S1024x2048.Idx) :
    arg10.view.read (Elt F) (arg10.view.writes (Elt F) G_arg10 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).1) j
      = if (j 0).val < 32 * n then outBlock (F := F) (arg8.view.read (Elt F) X_arg8) (arg4.view.read (Elt F) X_arg4) (arg2.view.read (Elt F) X_arg2) (arg12.view.read (Elt F) G_arg12) j else arg10.view.read (Elt F) G_arg10 j := by
  induction n generalizing j with
  | zero => rw [if_neg (by omega)]; rfl
  | succ n ih =>
    have hj0 : (j 0).val < 1024 := (j 0).isLt
    have hl : n < k0_t2_loop.trips := by have : k0_t2_loop.trips = 32 := by decide +kernel
                                         omega
    have ih := fun j => ih (by omega) j
    rw [show (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (n + 1)).1 = _ from pb2_succ_arg10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩]
    have e : k0_off10 ⟨n, hl⟩ = ![32 * n, 0] := k0_off10_eq _
    simp only [List.cons_append, List.nil_append]
    by_cases hb : 32 * n ≤ (j 0).val ∧ (j 0).val < 32 * n + 32
    · rw [if_pos (by omega)]
      have hk : (⟨(j 0).val / 32, by omega⟩ : Fin 32) = num2 ⟨n, hl⟩ := Fin.ext (by show (j 0).val / 32 = n; omega)
      unfold outBlock
      rw [hk]
      refine (View.read_writes_cons_unit_of_mem arg10.view G_arg10 _ _ _ j (ix2 (n0 := 32) (n1 := 2048) ⟨(j 0).val % 32, Nat.mod_lt _ (by decide)⟩ (j 1)) e fun a => ?_).trans ?_
      · match a with
        | 0 => show (j 0).val = 32 * n + (j 0).val % 32; omega
        | 1 => show (j 1).val = 0 + (j 1).val; omega
      · refine congrFun ?_ _
        exact outBlock_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩ (fun j hj => (loop2_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j).trans (if_neg (by have h2 : 32 * n ≤ (j 0).val := hj; omega)))
    · have hb' : (j 0).val < 32 * n ∨ 32 * n + 32 ≤ (j 0).val := by omega
      rw [View.read_writes_cons_unit_of_not_mem arg10.view G_arg10 _ _ _ j e 0 ?_, ih]
      rotate_left
      · exact hb'
      by_cases h0 : (j 0).val < 32 * n
      · rw [if_pos h0, if_pos (by omega)]
      · rw [if_neg h0, if_neg (by omega)]

end Loop2

end Cert.Kernel.Hand

end
-- ==== Proof.KernelStep.lean ====
/- What one grid point leaves in the outputs' blocks, as functions of the blocks it reads. -/
module

public import proofs.«01_k».proof.Proof.KernelPoint
public import proofs.«01_k».proof.Proof.KernelLoop2

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word of the second table of dyadic parameters, which the kernel reads from scalar memory. -/
def rq (x7 : Vec F S4 .i32) (r : Fin 4) : Elt F .i32 := x7 (ix1 (n := 4) r)

/-- The words of the activation's tiles at one grid point, from the point's blocks and the rows of `x` as operand. -/
def tilesOf (x1 : Vec F S1024x128 .i32) (x3 : Vec F S2048x1024 .i8) (x4 : Vec F S8x1024 .i32) (x7 : Vec F S4 .i32)
    (xb : Vec F S1024x2048 .bf16) : Fin 4 → Fin 4 → IVec S256x256 32 :=
  tile (F := F) (rq x7 0) (rq x7 1) (rq x7 2) (rq x7 3) x1 xb (k0_pay3 x3) x4

/-- The block of the activation one grid point stores. -/
def gStep (x1 : Vec F S1024x128 .i32) (x3 : Vec F S2048x1024 .i8) (x4 : Vec F S8x1024 .i32) (x7 : Vec F S4 .i32)
    (xb : Vec F S1024x2048 .bf16) : Vec F S1024x1024 .i8 := codesBlock (tilesOf x1 x3 x4 x7 xb)

/-- The block of accumulated products after one grid point, from the block before it. -/
def zStep (x1 : Vec F S1024x128 .i32) (x3 : Vec F S2048x1024 .i8) (x4 : Vec F S8x1024 .i32) (x5 : Vec F S1024x2048 .i8)
    (x7 : Vec F S4 .i32) (xb : Vec F S1024x2048 .bf16) (old : Vec F S1024x2048 .i32) : Vec F S1024x2048 .i32 :=
  accBlock (F := F) old (k0_pay4 x5) (tilesOf x1 x3 x4 x7 xb)

theorem smem_read0 (arg9 : Memref sig .tc .smem S4 .i32) (harg9 : arg9.IsWhole) (x7 : Vec F S4 .i32) (y : S1.Idx) :
    View.readAt (Elt F) arg9.view (Rect.unit (s := S4) ![0] S1.size inb_S4_S1_0).toLoadRect (harg9.unread x7) y = rq x7 0 := by
  refine (congrFun (View.readAt_unit arg9.view (harg9.unread x7) inb_S4_S1_0 rfl inb_S4_S1_0) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 0 + 1 * (y 0).val = 0
  have : (y 0).val < 1 := (y 0).isLt
  omega

theorem smem_read1 (arg9 : Memref sig .tc .smem S4 .i32) (harg9 : arg9.IsWhole) (x7 : Vec F S4 .i32) (y : S1.Idx) :
    View.readAt (Elt F) arg9.view (Rect.unit (s := S4) ![1] S1.size inb_S4_S1_1).toLoadRect (harg9.unread x7) y = rq x7 1 := by
  refine (congrFun (View.readAt_unit arg9.view (harg9.unread x7) inb_S4_S1_1 rfl inb_S4_S1_1) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 1 + 1 * (y 0).val = 1
  have : (y 0).val < 1 := (y 0).isLt
  omega

theorem smem_read2 (arg9 : Memref sig .tc .smem S4 .i32) (harg9 : arg9.IsWhole) (x7 : Vec F S4 .i32) (y : S1.Idx) :
    View.readAt (Elt F) arg9.view (Rect.unit (s := S4) ![2] S1.size inb_S4_S1_2).toLoadRect (harg9.unread x7) y = rq x7 2 := by
  refine (congrFun (View.readAt_unit arg9.view (harg9.unread x7) inb_S4_S1_2 rfl inb_S4_S1_2) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 2 + 1 * (y 0).val = 2
  have : (y 0).val < 1 := (y 0).isLt
  omega

theorem smem_read3 (arg9 : Memref sig .tc .smem S4 .i32) (harg9 : arg9.IsWhole) (x7 : Vec F S4 .i32) (y : S1.Idx) :
    View.readAt (Elt F) arg9.view (Rect.unit (s := S4) ![3] S1.size inb_S4_S1_3).toLoadRect (harg9.unread x7) y = rq x7 3 := by
  refine (congrFun (View.readAt_unit arg9.view (harg9.unread x7) inb_S4_S1_3 rfl inb_S4_S1_3) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 3 + 1 * (y 0).val = 3
  have : (y 0).val < 1 := (y 0).isLt
  omega

theorem fin9 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).1) = gStep x1 x3 x4 x7 xb := by
  funext j
  have hj : (j 0).val < 1024 := (j 0).isLt
  rw [loop1_read11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n (by omega) j, if_pos (by omega), hX3, hX6, hX13, hX14, h13, h14, h15, h16]
  rfl

theorem fin10 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4)
    (hX15 : arg15.view.read (Elt F) X_arg15 = k0_pay4 x5) (hG12 : arg12.view.read (Elt F) G_arg12 = old) :
    arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1) = zStep x1 x3 x4 x5 x7 xb old := by
  funext j
  have hj : (j 0).val < 1024 := (j 0).isLt
  rw [loop1_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n (by omega) j, if_pos (by omega), hX3, hX6, hX13, hX14, hX15, hG12, h13, h14, h15, h16]
  rfl

theorem fin10A (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg16 : BufTy.Contents (Elt F) arg16.view.ty) (J : BufTy.Contents (Elt F) arg12.view.ty) (L0 : List (View.Piece (Elt F) S1024x2048 .i32)) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4)
    (hX15 : arg15.view.read (Elt F) X_arg15 = k0_pay4 x5) (hG12 : arg12.view.read (Elt F) (arg12.view.writes (Elt F) J L0) = old) :
    arg12.view.read (Elt F) (arg12.view.writes (Elt F) J ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 (arg12.view.writes (Elt F) J L0) G_arg16 n).2.1 ++ L0)) = zStep x1 x3 x4 x5 x7 xb old := by
  rw [View.writes_append]
  exact fin10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 (arg12.view.writes (Elt F) J L0) G_arg16 x1 x3 x4 x5 x7 xb old h13 h14 h15 h16 hX3 hX6 hX13 hX14 n hn hX15 hG12

theorem fin8C (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (x0 : Vec F S1024x2048 .i8) (x2 : Vec F S1024x128 .i32) (x6 : Vec F S8x2048 .i32) (z : Vec F S1024x2048 .i32)
    (hX2 : arg2.view.read (Elt F) X_arg2 = x0) (hX4 : arg4.view.read (Elt F) X_arg4 = x2) (hX8 : arg8.view.read (Elt F) X_arg8 = x6)
    (hz : arg12.view.read (Elt F) G_arg12 = z) (n : ℕ) (hn : n = 32) :
    arg10.view.read (Elt F) (arg10.view.writes (Elt F) G_arg10 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).1) = outBlock x6 x2 x0 z := by
  funext j
  have hj : (j 0).val < 1024 := (j 0).isLt
  rw [loop2_read10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j, if_pos (by omega), hX2, hX4, hX8, hz]

theorem fin10C (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (x0 : Vec F S1024x2048 .i8) (x2 : Vec F S1024x128 .i32) (x6 : Vec F S8x2048 .i32) (z : Vec F S1024x2048 .i32)
    (hX2 : arg2.view.read (Elt F) X_arg2 = x0) (hX4 : arg4.view.read (Elt F) X_arg4 = x2) (hX8 : arg8.view.read (Elt F) X_arg8 = x6)
    (hz : arg12.view.read (Elt F) G_arg12 = z) (n : ℕ) (hn : n = 32) :
    arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).2) = zBlock x6 x2 x0 z := by
  funext j
  have hj : (j 0).val < 1024 := (j 0).isLt
  rw [loop2_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j, if_pos (by omega), hX2, hX4, hX8, hz]

theorem read_xb (arg13 : Memref sig .tc .vmem S1024x2048 .bf16) (arg2 : Memref sig .tc .vmem S1024x2048 .i8) (h : arg2.IsWhole) (f : BufTy.Contents (Elt F) arg13.view.ty) (x : Vec F S1024x2048 .i8) :
    arg13.view.read (Elt F) (arg13.view.writes (Elt F) f [⟨Rect.unit (s := S1024x2048) ![0, 0] S1024x2048.size inb_S1024x2048_S1024x2048_0_0,
      k0_pay1 (View.readAt (Elt F) arg2.view (Rect.unit (s := S1024x2048) ![0, 0] S1024x2048.size inb_S1024x2048_S1024x2048_0_0).toLoadRect (h.unread x))⟩]) = k0_pay1 x := by
  rw [View.readAt_full, h.read_unread]
  exact View.read_writes_full _ _ _ _ _

theorem read_w1b (arg14 : Memref sig .tc .vmem S2048x1024 .bf16) (arg5 : Memref sig .tc .vmem S2048x1024 .i8) (h : arg5.IsWhole) (f : BufTy.Contents (Elt F) arg14.view.ty) (x : Vec F S2048x1024 .i8) :
    arg14.view.read (Elt F) (arg14.view.writes (Elt F) f [⟨Rect.unit (s := S2048x1024) ![0, 0] S2048x1024.size inb_S2048x1024_S2048x1024_0_0,
      k0_pay3 (View.readAt (Elt F) arg5.view (Rect.unit (s := S2048x1024) ![0, 0] S2048x1024.size inb_S2048x1024_S2048x1024_0_0).toLoadRect (h.unread x))⟩]) = k0_pay3 x := by
  rw [View.readAt_full, h.read_unread]
  exact View.read_writes_full _ _ _ _ _

theorem read_w2b (arg15 : Memref sig .tc .vmem S1024x2048 .bf16) (arg7 : Memref sig .tc .vmem S1024x2048 .i8) (h : arg7.IsWhole) (f : BufTy.Contents (Elt F) arg15.view.ty) (x : Vec F S1024x2048 .i8) :
    arg15.view.read (Elt F) (arg15.view.writes (Elt F) f [⟨Rect.unit (s := S1024x2048) ![0, 0] S1024x2048.size inb_S1024x2048_S1024x2048_0_0,
      k0_pay4 (View.readAt (Elt F) arg7.view (Rect.unit (s := S1024x2048) ![0, 0] S1024x2048.size inb_S1024x2048_S1024x2048_0_0).toLoadRect (h.unread x))⟩]) = k0_pay4 x := by
  rw [View.readAt_full, h.read_unread]
  exact View.read_writes_full _ _ _ _ _

theorem read_zero (arg12 : Memref sig .tc .vmem S1024x2048 .i32) (f : BufTy.Contents (Elt F) arg12.view.ty) :
    arg12.view.read (Elt F) (arg12.view.writes (Elt F) f [⟨Rect.unit (s := S1024x2048) ![0, 0] S1024x2048.size inb_S1024x2048_S1024x2048_0_0, k0_pay2⟩]) = k0_pay2 := by
  exact View.read_writes_full _ _ _ _ _

end Cert.Kernel.Hand

end
-- ==== Proof.KernelRunA.lean ====
/- The kernel body run at a grid point, case A. -/
module

public import proofs.«01_k».proof.Proof.KernelStep

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a row block's first point the body stores the rows of `x` as operand and zeroes the accumulator, then adds the point's products to it and stores the block of the activation. -/
theorem run_A (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : cond0_0 i) (hc1 : ¬cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xi8 : Vec F S1024x2048 .i8) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare (gStep x1 x3 x4 x7 (k0_pay1 x0)) ∗ owns (c : Thread nD τ) arg12 fullShare (zStep x1 x3 x4 x5 x7 (k0_pay1 x0) k0_pay2) ∗ owns (c : Thread nD τ) arg13 fullShare (k0_pay1 x0) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 (k0_pay1 x0) k0_pay2 (smem_read0 arg9 harg9 x7 _) (smem_read1 arg9 harg9 x7 _) (smem_read2 arg9 harg9 x7 _) (smem_read3 arg9 harg9 x7 _) (harg3.read_unread _) (harg6.read_unread _) (read_xb arg13 arg2 harg2 _ x0) (read_w1b arg14 arg5 harg5 _ x3) _ (by decide +kernel)
  isplitl [H10]
  · iexists _; isplitr; swap; · iexact H10
    ipureintro
    exact fin10A Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _  x1 x3 x4 x5 x7 (k0_pay1 x0) k0_pay2 (smem_read0 arg9 harg9 x7 _) (smem_read1 arg9 harg9 x7 _) (smem_read2 arg9 harg9 x7 _) (smem_read3 arg9 harg9 x7 _) (harg3.read_unread _) (harg6.read_unread _) (read_xb arg13 arg2 harg2 _ x0) (read_w1b arg14 arg5 harg5 _ x3) _ (by decide +kernel) (read_w2b arg15 arg7 harg7 _ x5) (read_zero arg12 _)
  isplitl [HS0]
  · iexists _; isplitr; swap; · iexact HS0
    ipureintro
    exact read_xb arg13 arg2 harg2 _ x0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Hand

end
-- ==== Proof.KernelRunB.lean ====
/- The kernel body run at a grid point, case B. -/
module

public import proofs.«01_k».proof.Proof.KernelStep

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a point between, the body adds the point's products to the accumulator and stores the block of the activation. -/
theorem run_B (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : ¬cond0_0 i) (hc1 : ¬cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xi8 : Vec F S1024x2048 .i8) (xo10 : Vec F S1024x2048 .i32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xo10 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare (gStep x1 x3 x4 x7 xs0) ∗ owns (c : Thread nD τ) arg12 fullShare (zStep x1 x3 x4 x5 x7 xs0 xo10) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel)
  isplitl [H10]
  · iexists _; isplitr; swap; · iexact H10
    ipureintro
    first | exact fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _) | (rw [View.writes_append]; exact fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _))
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Hand

end
-- ==== Proof.KernelRunC.lean ====
/- The kernel body run at a grid point, case C. -/
module

public import proofs.«01_k».proof.Proof.KernelStep

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a row block's last point the body does the same and then rescales the accumulator into the residual stream and stores its layer norm. -/
theorem run_C (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : ¬cond0_0 i) (hc1 : cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xo10 : Vec F S1024x2048 .i32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xo10 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlock x6 x2 x0 (zStep x1 x3 x4 x5 x7 xs0 xo10)) ∗ owns (c : Thread nD τ) arg11 fullShare (gStep x1 x3 x4 x7 xs0) ∗ owns (c : Thread nD τ) arg12 fullShare (zBlock x6 x2 x0 (zStep x1 x3 x4 x5 x7 xs0 xo10)) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    first | exact fin8C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel) | (rw [View.writes_append]; exact fin8C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel))
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel)
  isplitl [H10]
  · iexists _; isplitr; swap; · iexact H10
    ipureintro
    first | exact fin10C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel) | (rw [View.writes_append]; exact fin10C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel))
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Hand

end
-- ==== Proof.KernelFrame.lean ====
/- The pipeline's proof data: what every staging buffer holds after every grid point; the body's triple at a
   generic point; the launch and the frame of the kernel. -/
module

public import proofs.«01_k».proof.Proof.KernelRunA
public import proofs.«01_k».proof.Proof.KernelRunB
public import proofs.«01_k».proof.Proof.KernelRunC
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers and the rows of `x` as operand hold after the body at position `n`: at a row
    block's first point the accumulator starts from zero, at its last the residual stream and its layer norm are stored. -/
def outsAt0 (c : Dev nD) : (n : ℕ) → n < cfg0.N → Vec F S1024x2048 .i8 × Vec F S1024x1024 .i8 × Vec F S1024x2048 .i32 × Vec F S1024x2048 .bf16
  | 0, hn => (VO0_8.read (Elt F) VO0_8.junk, gStep (iblk m c 1 ⟨0, hn⟩) (iblk m c 3 ⟨0, hn⟩) (iblk m c 4 ⟨0, hn⟩) (iblk m c 7 ⟨0, hn⟩) (k0_pay1 (iblk m c 0 ⟨0, hn⟩)), zStep (iblk m c 1 ⟨0, hn⟩) (iblk m c 3 ⟨0, hn⟩) (iblk m c 4 ⟨0, hn⟩) (iblk m c 5 ⟨0, hn⟩) (iblk m c 7 ⟨0, hn⟩) (k0_pay1 (iblk m c 0 ⟨0, hn⟩)) k0_pay2, (k0_pay1 (iblk m c 0 ⟨0, hn⟩)))
  | n + 1, hn =>
    if (n + 1) % 16 = 0 then (VO0_8.read (Elt F) VO0_8.junk, gStep (iblk m c 1 ⟨n + 1, hn⟩) (iblk m c 3 ⟨n + 1, hn⟩) (iblk m c 4 ⟨n + 1, hn⟩) (iblk m c 7 ⟨n + 1, hn⟩) (k0_pay1 (iblk m c 0 ⟨n + 1, hn⟩)), zStep (iblk m c 1 ⟨n + 1, hn⟩) (iblk m c 3 ⟨n + 1, hn⟩) (iblk m c 4 ⟨n + 1, hn⟩) (iblk m c 5 ⟨n + 1, hn⟩) (iblk m c 7 ⟨n + 1, hn⟩) (k0_pay1 (iblk m c 0 ⟨n + 1, hn⟩)) k0_pay2, (k0_pay1 (iblk m c 0 ⟨n + 1, hn⟩)))
    else if (n + 1) % 16 = 15 then (outBlock (iblk m c 6 ⟨n + 1, hn⟩) (iblk m c 2 ⟨n + 1, hn⟩) (iblk m c 0 ⟨n + 1, hn⟩) (zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1), gStep (iblk m c 1 ⟨n + 1, hn⟩) (iblk m c 3 ⟨n + 1, hn⟩) (iblk m c 4 ⟨n + 1, hn⟩) (iblk m c 7 ⟨n + 1, hn⟩) (outsAt0 c n (Nat.lt_of_succ_lt hn)).2.2.2, zBlock (iblk m c 6 ⟨n + 1, hn⟩) (iblk m c 2 ⟨n + 1, hn⟩) (iblk m c 0 ⟨n + 1, hn⟩) (zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1), (outsAt0 c n (Nat.lt_of_succ_lt hn)).2.2.2)
    else (VO0_8.read (Elt F) VO0_8.junk, gStep (iblk m c 1 ⟨n + 1, hn⟩) (iblk m c 3 ⟨n + 1, hn⟩) (iblk m c 4 ⟨n + 1, hn⟩) (iblk m c 7 ⟨n + 1, hn⟩) (outsAt0 c n (Nat.lt_of_succ_lt hn)).2.2.2, zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1, (outsAt0 c n (Nat.lt_of_succ_lt hn)).2.2.2)

theorem outsAt0_A (c : Dev nD) (t : Fin cfg0.N) (h0 : t.val % 16 = 0) :
    outsAt0 m c t.val t.isLt = (VO0_8.read (Elt F) VO0_8.junk, gStep (iblk m c 1 t) (iblk m c 3 t) (iblk m c 4 t) (iblk m c 7 t) (k0_pay1 (iblk m c 0 t)), zStep (iblk m c 1 t) (iblk m c 3 t) (iblk m c 4 t) (iblk m c 5 t) (iblk m c 7 t) (k0_pay1 (iblk m c 0 t)) k0_pay2, (k0_pay1 (iblk m c 0 t))) := by
  obtain ⟨n, hn⟩ := t
  cases n with
  | zero => rfl
  | succ n => exact if_pos h0

theorem outsAt0_B (c : Dev nD) (t : Fin cfg0.N) (h0 : ¬t.val % 16 = 0) (h1 : ¬t.val % 16 = 15) :
    outsAt0 m c t.val t.isLt = (VO0_8.read (Elt F) VO0_8.junk, gStep (iblk m c 1 t) (iblk m c 3 t) (iblk m c 4 t) (iblk m c 7 t) (outsAt0 m c (t.val - 1) (Nat.lt_of_le_of_lt (Nat.sub_le _ _) t.isLt)).2.2.2, zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact absurd (Nat.zero_mod _) h0
  | succ n => exact (if_neg h0).trans (if_neg h1)

theorem outsAt0_C (c : Dev nD) (t : Fin cfg0.N) (h0 : ¬t.val % 16 = 0) (h1 : t.val % 16 = 15) :
    outsAt0 m c t.val t.isLt = (outBlock (iblk m c 6 t) (iblk m c 2 t) (iblk m c 0 t) (zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1), gStep (iblk m c 1 t) (iblk m c 3 t) (iblk m c 4 t) (iblk m c 7 t) (outsAt0 m c (t.val - 1) (Nat.lt_of_le_of_lt (Nat.sub_le _ _) t.isLt)).2.2.2, zBlock (iblk m c 6 t) (iblk m c 2 t) (iblk m c 0 t) (zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1), (outsAt0 m c (t.val - 1) (Nat.lt_of_le_of_lt (Nat.sub_le _ _) t.isLt)).2.2.2) := by
  obtain ⟨n, hn⟩ := t
  cases n with
  | zero => exact absurd (Nat.zero_mod _) h0
  | succ n => exact (if_neg h0).trans (if_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 16 = 0) (h1 : ¬t.val % 16 = 15) (d) :
    (dats m 0 c).before 10 t d = (outsAt0 m c (t.val - 1) (Nat.lt_of_le_of_lt (Nat.sub_le _ _) t.isLt)).2.2.1 := by
  have hN : t.val < 160 := lt_of_lt_of_eq t.isLt (show cfg0.N = 160 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 16 = 0) (h1 : t.val % 16 = 15) (d) :
    (dats m 0 c).before 10 t d = (outsAt0 m c (t.val - 1) (Nat.lt_of_le_of_lt (Nat.sub_le _ _) t.isLt)).2.2.1 := by
  have hN : t.val < 160 := lt_of_lt_of_eq t.isLt (show cfg0.N = 160 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 160 := lt_of_lt_of_eq t.isLt (show cfg0.N = 160 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · rw [PhiS_castSucc m c t, PhiS_zero m c _ _ hz, PhiA0_eq]
        rw [outsAt0_A m c t h0]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10
      · rw [PhiS_castSucc m c t, PhiS_pos m c _ _ hz]
        rw [outsAt0_A m c t h0]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexists _; iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · exfalso; have hN : t.val < 160 := lt_of_lt_of_eq t.isLt (show cfg0.N = 160 from N_0); omega
      · rw [PhiS_castSucc m c t, PhiS_pos m c _ _ hz]
        rw [outsAt0_C m c t h0 h1]
        simp only [before0_10_C m c t h0 h1]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexact H8
        isplitl [H9]
        · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · exfalso; have hN : t.val < 160 := lt_of_lt_of_eq t.isLt (show cfg0.N = 160 from N_0); omega
      · rw [PhiS_castSucc m c t, PhiS_pos m c _ _ hz]
        rw [outsAt0_B m c t h0 h1]
        simp only [before0_10_B m c t h0 h1]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 160 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel.Hand

end
-- ==== Proof.KernelIdealPoint.lean ====
/- The grid points of the kernel: which conditionals run at a point, which windows are idle there,
   the staging buffers of a point and the scratch buffers. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1024x2048 .i8 := (Memref.whole cc0_stg8_0 : Memref sig .tc .vmem S1024x2048 .i8).view
/-- One staging buffer of output window 9, through which its contents are stated (`View.read_writes_of_cover`: the
    choice does not matter). -/
abbrev VO0_9 : View sig .tc .vmem S1024x1024 .i8 := (Memref.whole cc0_stg9_0 : Memref sig .tc .vmem S1024x1024 .i8).view
/-- One staging buffer of output window 10, through which its contents are stated (`View.read_writes_of_cover`: the
    choice does not matter). -/
abbrev VO0_10 : View sig .tc .vmem S1024x2048 .i32 := (Memref.whole cc0_stg10_0 : Memref sig .tc .vmem S1024x2048 .i32).view
/-- Each window's current staging memref at point `t`, spelled as the pipeline passes it (`bodyAt0`), and its wholeness. -/
abbrev ms0_0 (t : Fin cfg0.N) : Memref sig .tc .vmem S1024x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2048 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S4 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .i32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x2048 .bf16 := Memref.whole cc0_scratch0
abbrev scM0_1 : Memref sig .tc .vmem S2048x1024 .bf16 := Memref.whole cc0_scratch1
abbrev scM0_2 : Memref sig .tc .vmem S1024x2048 .bf16 := Memref.whole cc0_scratch2
abbrev scM0_3 : Memref sig .tc .vmem S256x1024 .bf16 := Memref.whole cc0_scratch3
/-- The scratch `arg13` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KernelIdealTile.lean ====
module

public import proofs.«01_k».proof.Proof.Gen.KernelIdeal.Loops
public import Idealize.ShloMosaic.Lib.VecWindow
public import Idealize.ShloMosaic.Lib.WritesUnit
public import Idealize.ShloMosaic.Lib.Pipeline.Value
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.ValueIdx

variable {F : FTy → Type} [FloatOps F]

/-- The 32-bit words of one 256 by 256 tile of the activation, before they are narrowed: from the two halves of the
    rows of `x` and of the columns of the first weight, the rows' exponents, and the tile's three rows of parameters. -/
def tileOf (v13 v14 v15 v16 : Elt F .i32) (e : Vec F S256x128 .i32) (a0 : Vec F S256x1024 .bf16) (b0 : Vec F S1024x256 .bf16)
    (a1 : Vec F S256x1024 .bf16) (b1 : Vec F S1024x256 .bf16) (m k b : Vec F S1x256 .i32) : IVec S256x256 32 :=
  k0_pay40 v13 v14 v15 v16 (k0_pay39 (k0_pay8 e) k0_pay38 a0 b0 a1 b1 m k b)

/-- A tile as int8 codes. -/
def codesOf (t : IVec S256x256 32) : IVec S256x256 8 := trunci 8 t natLt_8_32

/-- A tile as the operand of the second product. -/
def operandOf (t : IVec S256x256 32) : FVec F S256x256 .bf16 := k0_pay5 t

set_option maxHeartbeats 4000000 in
theorem trip1_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).1 =
      [⟨Rect.unit (s := S1024x1024) (k0_off7 k) S256x256.size (k0_off7_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩,
       ⟨Rect.unit (s := S1024x1024) (k0_off6 k) S256x256.size (k0_off6_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩,
       ⟨Rect.unit (s := S1024x1024) (k0_off5 k) S256x256.size (k0_off5_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩,
       ⟨Rect.unit (s := S1024x1024) (k0_off4 k) S256x256.size (k0_off4_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] := by
  unfold tripL_k0_t1 trip_k0_t1
  dsimp only
  refine congr (congrArg List.cons ?_) (congr (congrArg List.cons ?_) (congr (congrArg List.cons ?_) (congr (congrArg List.cons ?_) rfl)))
  · rfl
  · rfl
  · rfl
  · rfl

set_option maxHeartbeats 4000000 in
theorem trip1_thd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.2 = [⟨Rect.unit (s := S256x1024) ![0, 768] S256x256.size inb_S256x1024_S256x256_0_768, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S256x1024) ![0, 512] S256x256.size inb_S256x1024_S256x256_0_512, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S256x1024) ![0, 256] S256x256.size inb_S256x1024_S256x256_0_256, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S256x1024) ![0, 0] S256x256.size inb_S256x1024_S256x256_0_0, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] := by
  unfold tripL_k0_t1 trip_k0_t1
  dsimp only
  delta trip_k0_t1.sl.HW_arg16_4
  refine congr (congrArg List.cons ?_) (congr (congrArg List.cons ?_) (congr (congrArg List.cons ?_) (congr (congrArg List.cons ?_) rfl)))
  · rfl
  · rfl
  · rfl
  · rfl

set_option maxHeartbeats 4000000 in
theorem trip1_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty) (k : Fin k0_t1_loop.trips) (f_arg11 : BufTy.Contents (Elt F) arg11.view.ty) (f_arg12 : BufTy.Contents (Elt F) arg12.view.ty) (f_arg16 : BufTy.Contents (Elt F) arg16.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.1 = [⟨Rect.unit (s := S1024x2048) (k0_off8 k) S256x2048.size (k0_off8_inb k),
      k0_pay6 (View.readAt (Elt F) arg12.view (Rect.unit (s := S1024x2048) (k0_off8 k) S256x2048.size (k0_off8_inb k)).toLoadRect f_arg12)
        (arg16.view.readCov (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k f_arg11 f_arg12 f_arg16).2.2 (Rect.unit (s := S256x1024) ![0, 0] S256x1024.size inb_S256x1024_S256x1024_0_0).toLoadRect)
        (View.readAt (Elt F) arg15.view (Rect.unit (s := S1024x2048) ![0, 0] S1024x2048.size inb_S1024x2048_S1024x2048_0_0).toLoadRect X_arg15)⟩] := by
  unfold tripL_k0_t1 trip_k0_t1
  rfl

theorem inbE (k : Fin 4) (a : Fin 2) : (![256 * k.val, 0] : Fin 2 → ℕ) a + S256x128.size a ≤ S1024x128.size a := by
  revert k a; decide +kernel
theorem inbX0 (k : Fin 4) (a : Fin 2) : (![256 * k.val, 0] : Fin 2 → ℕ) a + S256x1024.size a ≤ S1024x2048.size a := by
  revert k a; decide +kernel
theorem inbX1 (k : Fin 4) (a : Fin 2) : (![256 * k.val, 1024] : Fin 2 → ℕ) a + S256x1024.size a ≤ S1024x2048.size a := by
  revert k a; decide +kernel
theorem inbW0 (n : Fin 4) (a : Fin 2) : (![0, 256 * n.val] : Fin 2 → ℕ) a + S1024x256.size a ≤ S2048x1024.size a := by
  revert n a; decide +kernel
theorem inbW1 (n : Fin 4) (a : Fin 2) : (![1024, 256 * n.val] : Fin 2 → ℕ) a + S1024x256.size a ≤ S2048x1024.size a := by
  revert n a; decide +kernel
theorem inbP (r : Fin 8) (n : Fin 4) (a : Fin 2) : (![r.val, 256 * n.val] : Fin 2 → ℕ) a + S1x256.size a ≤ S8x1024.size a := by
  revert r n a; decide +kernel
theorem inbZ (k : Fin 4) (a : Fin 2) : (![256 * k.val, 0] : Fin 2 → ℕ) a + S256x2048.size a ≤ S1024x2048.size a := by
  revert k a; decide +kernel

/-- The tile of row band `k` and column band `n`, as a function of the whole staged blocks. -/
def tile (v13 v14 v15 v16 : Elt F .i32) (x1 : Vec F S1024x128 .i32) (xb : Vec F S1024x2048 .bf16) (w1b : Vec F S2048x1024 .bf16)
    (x4 : Vec F S8x1024 .i32) (k n : Fin 4) : IVec S256x256 32 :=
  tileOf (F := F) v13 v14 v15 v16 (VecWindow.window x1 ![256 * k.val, 0] S256x128.size (inbE k))
    (VecWindow.window xb ![256 * k.val, 0] S256x1024.size (inbX0 k)) (VecWindow.window w1b ![0, 256 * n.val] S1024x256.size (inbW0 n))
    (VecWindow.window xb ![256 * k.val, 1024] S256x1024.size (inbX1 k)) (VecWindow.window w1b ![1024, 256 * n.val] S1024x256.size (inbW1 n))
    (VecWindow.window x4 ![(0 : Fin 8).val, 256 * n.val] S1x256.size (inbP 0 n)) (VecWindow.window x4 ![(1 : Fin 8).val, 256 * n.val] S1x256.size (inbP 1 n))
    (VecWindow.window x4 ![(2 : Fin 8).val, 256 * n.val] S1x256.size (inbP 2 n))

/-- The four tiles of a row band side by side, as the operand of the second product. -/
def bandOf (T : Fin 4 → IVec S256x256 32) : Vec F S256x1024 .bf16 := fun j =>
  operandOf (F := F) (T ⟨(j 1).val / 256, by have : (j 1).val < 1024 := (j 1).isLt; omega⟩)
    (ix2 (n0 := 256) (n1 := 256) (j 0) ⟨(j 1).val % 256, Nat.mod_lt _ (by decide)⟩)

/-- The codes of the staged block of the activation. -/
def codesBlock (T : Fin 4 → Fin 4 → IVec S256x256 32) : Vec F S1024x1024 .i8 := fun j =>
  codesOf (T ⟨(j 0).val / 256, by have : (j 0).val < 1024 := (j 0).isLt; omega⟩ ⟨(j 1).val / 256, by have : (j 1).val < 1024 := (j 1).isLt; omega⟩)
    (ix2 (n0 := 256) (n1 := 256) ⟨(j 0).val % 256, Nat.mod_lt _ (by decide)⟩ ⟨(j 1).val % 256, Nat.mod_lt _ (by decide)⟩)

section Trip
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)

/-- A trip's number, below four. -/
def num (k : Fin k0_t1_loop.trips) : Fin 4 := ⟨k.val, Nat.lt_of_lt_of_le k.isLt k0_t1_abs.2.1⟩

variable (k : Fin k0_t1_loop.trips)

theorem tile_eq0 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6)) = tile (F := F) v13 v14 v15 v16 (arg3.view.read (Elt F) X_arg3) (arg13.view.read (Elt F) X_arg13) (arg14.view.read (Elt F) X_arg14) (arg6.view.read (Elt F) X_arg6) (num k) 0 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_0 rfl (inbW0 0), View.readAt_unit arg14.view X_arg14 inb_S2048x1024_S1024x256_1024_0 rfl (inbW1 0), View.readAt_unit arg6.view X_arg6 inb_S8x1024_S1x256_0_0 rfl (inbP 0 0), View.readAt_unit arg6.view X_arg6 inb_S8x1024_S1x256_1_0 rfl (inbP 1 0), View.readAt_unit arg6.view X_arg6 inb_S8x1024_S1x256_2_0 rfl (inbP 2 0)]
  rfl

theorem tile_eq1 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6)) = tile (F := F) v13 v14 v15 v16 (arg3.view.read (Elt F) X_arg3) (arg13.view.read (Elt F) X_arg13) (arg14.view.read (Elt F) X_arg14) (arg6.view.read (Elt F) X_arg6) (num k) 1 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_256 rfl (inbW0 1), View.readAt_unit arg14.view X_arg14 inb_S2048x1024_S1024x256_1024_256 rfl (inbW1 1), View.readAt_unit arg6.view X_arg6 inb_S8x1024_S1x256_0_256 rfl (inbP 0 1), View.readAt_unit arg6.view X_arg6 inb_S8x1024_S1x256_1_256 rfl (inbP 1 1), View.readAt_unit arg6.view X_arg6 inb_S8x1024_S1x256_2_256 rfl (inbP 2 1)]
  rfl

theorem tile_eq2 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6)) = tile (F := F) v13 v14 v15 v16 (arg3.view.read (Elt F) X_arg3) (arg13.view.read (Elt F) X_arg13) (arg14.view.read (Elt F) X_arg14) (arg6.view.read (Elt F) X_arg6) (num k) 2 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_512 rfl (inbW0 2), View.readAt_unit arg14.view X_arg14 inb_S2048x1024_S1024x256_1024_512 rfl (inbW1 2), View.readAt_unit arg6.view X_arg6 inb_S8x1024_S1x256_0_512 rfl (inbP 0 2), View.readAt_unit arg6.view X_arg6 inb_S8x1024_S1x256_1_512 rfl (inbP 1 2), View.readAt_unit arg6.view X_arg6 inb_S8x1024_S1x256_2_512 rfl (inbP 2 2)]
  rfl

theorem tile_eq3 : (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6)) = tile (F := F) v13 v14 v15 v16 (arg3.view.read (Elt F) X_arg3) (arg13.view.read (Elt F) X_arg13) (arg14.view.read (Elt F) X_arg14) (arg6.view.read (Elt F) X_arg6) (num k) 3 := by
  rw [View.readAt_unit arg3.view X_arg3 (k0_off1_inb k) (k0_off1_eq k) (inbE (num k)),
    View.readAt_unit arg13.view X_arg13 (k0_off2_inb k) (k0_off2_eq k) (inbX0 (num k)),
    View.readAt_unit arg13.view X_arg13 (k0_off3_inb k) (k0_off3_eq k) (inbX1 (num k)),
    View.readAt_unit arg14.view X_arg14 inb_S2048x1024_S1024x256_0_768 rfl (inbW0 3), View.readAt_unit arg14.view X_arg14 inb_S2048x1024_S1024x256_1024_768 rfl (inbW1 3), View.readAt_unit arg6.view X_arg6 inb_S8x1024_S1x256_0_768 rfl (inbP 0 3), View.readAt_unit arg6.view X_arg6 inb_S8x1024_S1x256_1_768 rfl (inbP 1 3), View.readAt_unit arg6.view X_arg6 inb_S8x1024_S1x256_2_768 rfl (inbP 2 3)]
  rfl

end Trip

end Cert.KernelIdeal.Hand

end
-- ==== Proof.KernelIdealLoop1.lean ====
module

public import proofs.«01_k».proof.Proof.KernelIdealTile
public import Idealize.ShloMosaic.Lib.VecWindow
public import Idealize.ShloMosaic.Lib.WritesUnit
public import Idealize.ShloMosaic.Lib.Pipeline.Value
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.ValueIdx

variable {F : FTy → Type} [FloatOps F]

theorem pb1_succ_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (k : Fin k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (k.val + 1)).1 = [⟨Rect.unit (s := S1024x1024) (k0_off7 k) S256x256.size (k0_off7_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S1024x1024) (k0_off6 k) S256x256.size (k0_off6_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S1024x1024) (k0_off5 k) S256x256.size (k0_off5_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S1024x1024) (k0_off4 k) S256x256.size (k0_off4_inb k), codesOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).1 := by
  rw [pb_k0_t1_succ]
  exact congrArg (· ++ _) (trip1_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k _ _ _)

theorem pb1_succ_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (k : Fin k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (k.val + 1)).2.1 = [⟨Rect.unit (s := S1024x2048) (k0_off8 k) S256x2048.size (k0_off8_inb k),
      k0_pay6 (View.readAt (Elt F) arg12.view (Rect.unit (s := S1024x2048) (k0_off8 k) S256x2048.size (k0_off8_inb k)).toLoadRect (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).2.1))
        (arg16.view.readCov [⟨Rect.unit (s := S256x1024) ![0, 768] S256x256.size inb_S256x1024_S256x256_0_768, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 768]) S1024x256.size (inb_S2048x1024_S1024x256_0_768)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 768]) S1024x256.size (inb_S2048x1024_S1024x256_1024_768)).toLoadRect X_arg14) (View.readAt (Elt F) arg6.view (Rect.unit (s := S8x1024) (![0, 768]) S1x256.size (inb_S8x1024_S1x256_0_768)).toLoadRect X_arg6) (View.readAt (Elt F) arg6.view (Rect.unit (s := S8x1024) (![1, 768]) S1x256.size (inb_S8x1024_S1x256_1_768)).toLoadRect X_arg6) (View.readAt (Elt F) arg6.view (Rect.unit (s := S8x1024) (![2, 768]) S1x256.size (inb_S8x1024_S1x256_2_768)).toLoadRect X_arg6))⟩, ⟨Rect.unit (s := S256x1024) ![0, 512] S256x256.size inb_S256x1024_S256x256_0_512, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 512]) S1024x256.size (inb_S2048x1024_S1024x256_0_512)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 512]) S1024x256.size (inb_S2048x1024_S1024x256_1024_512)).toLoadRect X_arg14) (View.readAt (Elt F) arg6.view (Rect.unit (s := S8x1024) (![0, 512]) S1x256.size (inb_S8x1024_S1x256_0_512)).toLoadRect X_arg6) (View.readAt (Elt F) arg6.view (Rect.unit (s := S8x1024) (![1, 512]) S1x256.size (inb_S8x1024_S1x256_1_512)).toLoadRect X_arg6) (View.readAt (Elt F) arg6.view (Rect.unit (s := S8x1024) (![2, 512]) S1x256.size (inb_S8x1024_S1x256_2_512)).toLoadRect X_arg6))⟩, ⟨Rect.unit (s := S256x1024) ![0, 256] S256x256.size inb_S256x1024_S256x256_0_256, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 256]) S1024x256.size (inb_S2048x1024_S1024x256_0_256)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 256]) S1024x256.size (inb_S2048x1024_S1024x256_1024_256)).toLoadRect X_arg14) (View.readAt (Elt F) arg6.view (Rect.unit (s := S8x1024) (![0, 256]) S1x256.size (inb_S8x1024_S1x256_0_256)).toLoadRect X_arg6) (View.readAt (Elt F) arg6.view (Rect.unit (s := S8x1024) (![1, 256]) S1x256.size (inb_S8x1024_S1x256_1_256)).toLoadRect X_arg6) (View.readAt (Elt F) arg6.view (Rect.unit (s := S8x1024) (![2, 256]) S1x256.size (inb_S8x1024_S1x256_2_256)).toLoadRect X_arg6))⟩, ⟨Rect.unit (s := S256x1024) ![0, 0] S256x256.size inb_S256x1024_S256x256_0_0, operandOf (tileOf (F := F) v13 v14 v15 v16 (View.readAt (Elt F) arg3.view (Rect.unit (s := S1024x128) (k0_off1 k) S256x128.size (k0_off1_inb k)).toLoadRect X_arg3) (View.readAt (Elt F) arg13.view (Rect.unit (s := S1024x2048) (k0_off2 k) S256x1024.size (k0_off2_inb k)).toLoadRect X_arg13) (View.readAt (Elt F) arg14.view (Rect.unit (s := S2048x1024) (![0, 0]) S1024x256.size (inb_S2048x1024_S1024x256_0_0)).toLoadRect X_arg14) (View.readAt (Elt F) arg13.view (Rect.unit (s := S1024x2048) (k0_off3 k) S256x1024.size (k0_off3_inb k)).toLoadRect X_arg13) (View.readAt (Elt F) arg14.view (Rect.unit (s := S2048x1024) (![1024, 0]) S1024x256.size (inb_S2048x1024_S1024x256_1024_0)).toLoadRect X_arg14) (View.readAt (Elt F) arg6.view (Rect.unit (s := S8x1024) (![0, 0]) S1x256.size (inb_S8x1024_S1x256_0_0)).toLoadRect X_arg6) (View.readAt (Elt F) arg6.view (Rect.unit (s := S8x1024) (![1, 0]) S1x256.size (inb_S8x1024_S1x256_1_0)).toLoadRect X_arg6) (View.readAt (Elt F) arg6.view (Rect.unit (s := S8x1024) (![2, 0]) S1x256.size (inb_S8x1024_S1x256_2_0)).toLoadRect X_arg6))⟩] (Rect.unit (s := S256x1024) ![0, 0] S256x1024.size inb_S256x1024_S256x1024_0_0).toLoadRect)
        (View.readAt (Elt F) arg15.view (Rect.unit (s := S1024x2048) ![0, 0] S1024x2048.size inb_S1024x2048_S1024x2048_0_0).toLoadRect X_arg15)⟩] ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 k.val).2.1 := by
  rw [pb_k0_t1_succ]
  refine congrArg (· ++ _) ((trip1_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 k _ _ _).trans ?_)
  rw [trip1_thd]

/-- The sums of the second product after one more column band: the old sums plus the product, band by band of rows. -/
def accBlock (old : Vec F S1024x2048 .i32) (w2b : Vec F S1024x2048 .bf16) (T : Fin 4 → Fin 4 → IVec S256x256 32) : Vec F S1024x2048 .i32 := fun j =>
  k0_pay6 (VecWindow.window old ![256 * (⟨(j 0).val / 256, by have : (j 0).val < 1024 := (j 0).isLt; omega⟩ : Fin 4).val, 0] S256x2048.size (inbZ _))
    (bandOf (F := F) (T ⟨(j 0).val / 256, by have : (j 0).val < 1024 := (j 0).isLt; omega⟩)) w2b
    (ix2 (n0 := 256) (n1 := 2048) ⟨(j 0).val % 256, Nat.mod_lt _ (by decide)⟩ (j 1))

theorem accBlock_eq (old : Vec F S1024x2048 .i32) (w2b : Vec F S1024x2048 .bf16) (T : Fin 4 → Fin 4 → IVec S256x256 32) (j : S1024x2048.Idx)
    (k : Fin 4) (hk : k = ⟨(j 0).val / 256, by have : (j 0).val < 1024 := (j 0).isLt; omega⟩) :
    accBlock (F := F) old w2b T j = k0_pay6 (VecWindow.window old ![256 * k.val, 0] S256x2048.size (inbZ k)) (bandOf (F := F) (T k)) w2b
      (ix2 (n0 := 256) (n1 := 2048) ⟨(j 0).val % 256, Nat.mod_lt _ (by decide)⟩ (j 1)) := by
  subst hk; rfl

section Loop
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty)

theorem loop1_read11 (n : ℕ) (hn : n ≤ 4) (j : S1024x1024.Idx) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).1) j
      = if (j 0).val < 256 * n then codesBlock (F := F) (tile (F := F) v13 v14 v15 v16 (arg3.view.read (Elt F) X_arg3) (arg13.view.read (Elt F) X_arg13) (arg14.view.read (Elt F) X_arg14) (arg6.view.read (Elt F) X_arg6)) j else arg11.view.read (Elt F) G_arg11 j := by
  have hj1 : (j 1).val < 1024 := (j 1).isLt
  have hj0 : (j 0).val < 1024 := (j 0).isLt
  induction n with
  | zero => rw [if_neg (by omega)]; rfl
  | succ n ih =>
    have hl : n < k0_t1_loop.trips := by have : k0_t1_loop.trips = 4 := by decide +kernel
                                         omega
    have ih := ih (by omega)
    rw [show (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (n + 1)).1 = _ from pb1_succ_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 ⟨n, hl⟩]
    rw [tile_eq0, tile_eq1, tile_eq2, tile_eq3]
    have e4 : k0_off4 ⟨n, hl⟩ = ![256 * n, 0] := k0_off4_eq _
    have e5 : k0_off5 ⟨n, hl⟩ = ![256 * n, 256] := k0_off5_eq _
    have e6 : k0_off6 ⟨n, hl⟩ = ![256 * n, 512] := k0_off6_eq _
    have e7 : k0_off7 ⟨n, hl⟩ = ![256 * n, 768] := k0_off7_eq _
    simp only [List.cons_append, List.nil_append]
    by_cases hb : 256 * n ≤ (j 0).val ∧ (j 0).val < 256 * n + 256
    · rw [if_pos (by omega)]
      have hk : (⟨(j 0).val / 256, by omega⟩ : Fin 4) = num ⟨n, hl⟩ := Fin.ext (by show (j 0).val / 256 = n; omega)
      unfold codesBlock
      rw [hk]
      have hm : (j 1).val < 256 ∨ (256 ≤ (j 1).val ∧ (j 1).val < 512) ∨ (512 ≤ (j 1).val ∧ (j 1).val < 768) ∨ 768 ≤ (j 1).val := by omega
      rcases hm with h | h | h | h
      · rw [View.read_writes_cons_unit_of_not_mem arg11.view G_arg11 _ _ _ j e7 1 (.inl (show (j 1).val < 768 by omega)),
          View.read_writes_cons_unit_of_not_mem arg11.view G_arg11 _ _ _ j e6 1 (.inl (show (j 1).val < 512 by omega)),
          View.read_writes_cons_unit_of_not_mem arg11.view G_arg11 _ _ _ j e5 1 (.inl (show (j 1).val < 256 by omega)),
          show (⟨(j 1).val / 256, by omega⟩ : Fin 4) = 0 from Fin.ext (by show (j 1).val / 256 = 0; omega)]
        refine View.read_writes_cons_unit_of_mem arg11.view G_arg11 _ _ _ j _ e4 fun a => ?_
        match a with
        | 0 => show (j 0).val = 256 * n + (j 0).val % 256; omega
        | 1 => show (j 1).val = 0 + (j 1).val % 256; omega
      · rw [View.read_writes_cons_unit_of_not_mem arg11.view G_arg11 _ _ _ j e7 1 (.inl (show (j 1).val < 768 by omega)),
          View.read_writes_cons_unit_of_not_mem arg11.view G_arg11 _ _ _ j e6 1 (.inl (show (j 1).val < 512 by omega)),
          show (⟨(j 1).val / 256, by omega⟩ : Fin 4) = 1 from Fin.ext (by show (j 1).val / 256 = 1; omega)]
        refine View.read_writes_cons_unit_of_mem arg11.view G_arg11 _ _ _ j _ e5 fun a => ?_
        match a with
        | 0 => show (j 0).val = 256 * n + (j 0).val % 256; omega
        | 1 => show (j 1).val = 256 + (j 1).val % 256; omega
      · rw [View.read_writes_cons_unit_of_not_mem arg11.view G_arg11 _ _ _ j e7 1 (.inl (show (j 1).val < 768 by omega)),
          show (⟨(j 1).val / 256, by omega⟩ : Fin 4) = 2 from Fin.ext (by show (j 1).val / 256 = 2; omega)]
        refine View.read_writes_cons_unit_of_mem arg11.view G_arg11 _ _ _ j _ e6 fun a => ?_
        match a with
        | 0 => show (j 0).val = 256 * n + (j 0).val % 256; omega
        | 1 => show (j 1).val = 512 + (j 1).val % 256; omega
      · rw [show (⟨(j 1).val / 256, by omega⟩ : Fin 4) = 3 from Fin.ext (by show (j 1).val / 256 = 3; omega)]
        refine View.read_writes_cons_unit_of_mem arg11.view G_arg11 _ _ _ j _ e7 fun a => ?_
        match a with
        | 0 => show (j 0).val = 256 * n + (j 0).val % 256; omega
        | 1 => show (j 1).val = 768 + (j 1).val % 256; omega
    · have hb' : (j 0).val < 256 * n ∨ 256 * n + 256 ≤ (j 0).val := by omega
      rw [View.read_writes_cons_unit_of_not_mem arg11.view G_arg11 _ _ _ j e7 0 ?_,
        View.read_writes_cons_unit_of_not_mem arg11.view G_arg11 _ _ _ j e6 0 ?_,
        View.read_writes_cons_unit_of_not_mem arg11.view G_arg11 _ _ _ j e5 0 ?_,
        View.read_writes_cons_unit_of_not_mem arg11.view G_arg11 _ _ _ j e4 0 ?_, ih]
      rotate_left
      · exact hb'
      · exact hb'
      · exact hb'
      · exact hb'
      by_cases h0 : (j 0).val < 256 * n
      · rw [if_pos h0, if_pos (by omega)]
      · rw [if_neg h0, if_neg (by omega)]

/-- The covered load of the band's operand: the four tiles side by side. -/
theorem band_readCov (T : Fin 4 → IVec S256x256 32) :
    arg16.view.readCov [⟨Rect.unit (s := S256x1024) ![0, 768] S256x256.size inb_S256x1024_S256x256_0_768, operandOf (F := F) (T 3)⟩,
      ⟨Rect.unit (s := S256x1024) ![0, 512] S256x256.size inb_S256x1024_S256x256_0_512, operandOf (F := F) (T 2)⟩,
      ⟨Rect.unit (s := S256x1024) ![0, 256] S256x256.size inb_S256x1024_S256x256_0_256, operandOf (F := F) (T 1)⟩,
      ⟨Rect.unit (s := S256x1024) ![0, 0] S256x256.size inb_S256x1024_S256x256_0_0, operandOf (F := F) (T 0)⟩]
      (Rect.unit (s := S256x1024) ![0, 0] S256x1024.size inb_S256x1024_S256x1024_0_0).toLoadRect = bandOf (F := F) T := by
  refine (View.readAt_full arg16.view _ inb_S256x1024_S256x1024_0_0).trans ?_
  funext j
  have hj1 : (j 1).val < 1024 := (j 1).isLt
  have hj0 : (j 0).val < 256 := (j 0).isLt
  unfold bandOf
  have hm : (j 1).val < 256 ∨ (256 ≤ (j 1).val ∧ (j 1).val < 512) ∨ (512 ≤ (j 1).val ∧ (j 1).val < 768) ∨ 768 ≤ (j 1).val := by omega
  rcases hm with h | h | h | h
  · rw [View.read_writes_cons_unit_of_not_mem arg16.view _ _ _ _ j rfl 1 (.inl (show (j 1).val < 768 by omega)),
      View.read_writes_cons_unit_of_not_mem arg16.view _ _ _ _ j rfl 1 (.inl (show (j 1).val < 512 by omega)),
      View.read_writes_cons_unit_of_not_mem arg16.view _ _ _ _ j rfl 1 (.inl (show (j 1).val < 256 by omega)),
      show (⟨(j 1).val / 256, by omega⟩ : Fin 4) = 0 from Fin.ext (by show (j 1).val / 256 = 0; omega)]
    refine View.read_writes_cons_unit_of_mem arg16.view _ _ _ _ j _ rfl fun a => ?_
    match a with
    | 0 => show (j 0).val = 0 + (j 0).val; omega
    | 1 => show (j 1).val = 0 + (j 1).val % 256; omega
  · rw [View.read_writes_cons_unit_of_not_mem arg16.view _ _ _ _ j rfl 1 (.inl (show (j 1).val < 768 by omega)),
      View.read_writes_cons_unit_of_not_mem arg16.view _ _ _ _ j rfl 1 (.inl (show (j 1).val < 512 by omega)),
      show (⟨(j 1).val / 256, by omega⟩ : Fin 4) = 1 from Fin.ext (by show (j 1).val / 256 = 1; omega)]
    refine View.read_writes_cons_unit_of_mem arg16.view _ _ _ _ j _ rfl fun a => ?_
    match a with
    | 0 => show (j 0).val = 0 + (j 0).val; omega
    | 1 => show (j 1).val = 256 + (j 1).val % 256; omega
  · rw [View.read_writes_cons_unit_of_not_mem arg16.view _ _ _ _ j rfl 1 (.inl (show (j 1).val < 768 by omega)),
      show (⟨(j 1).val / 256, by omega⟩ : Fin 4) = 2 from Fin.ext (by show (j 1).val / 256 = 2; omega)]
    refine View.read_writes_cons_unit_of_mem arg16.view _ _ _ _ j _ rfl fun a => ?_
    match a with
    | 0 => show (j 0).val = 0 + (j 0).val; omega
    | 1 => show (j 1).val = 512 + (j 1).val % 256; omega
  · rw [show (⟨(j 1).val / 256, by omega⟩ : Fin 4) = 3 from Fin.ext (by show (j 1).val / 256 = 3; omega)]
    refine View.read_writes_cons_unit_of_mem arg16.view _ _ _ _ j _ rfl fun a => ?_
    match a with
    | 0 => show (j 0).val = 0 + (j 0).val; omega
    | 1 => show (j 1).val = 768 + (j 1).val % 256; omega

theorem loop1_read12 (n : ℕ) (hn : n ≤ 4) (j : S1024x2048.Idx) :
    arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1) j
      = if (j 0).val < 256 * n then accBlock (F := F) (arg12.view.read (Elt F) G_arg12) (arg15.view.read (Elt F) X_arg15) (tile (F := F) v13 v14 v15 v16 (arg3.view.read (Elt F) X_arg3) (arg13.view.read (Elt F) X_arg13) (arg14.view.read (Elt F) X_arg14) (arg6.view.read (Elt F) X_arg6)) j else arg12.view.read (Elt F) G_arg12 j := by
  induction n generalizing j with
  | zero => rw [if_neg (by omega)]; rfl
  | succ n ih =>
    have hj0 : (j 0).val < 1024 := (j 0).isLt
    have hl : n < k0_t1_loop.trips := by have : k0_t1_loop.trips = 4 := by decide +kernel
                                         omega
    have ih := fun j => ih (by omega) j
    rw [show (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 (n + 1)).2.1 = _ from pb1_succ_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 ⟨n, hl⟩]
    rw [tile_eq0, tile_eq1, tile_eq2, tile_eq3, band_readCov arg16 (tile (F := F) v13 v14 v15 v16 (arg3.view.read (Elt F) X_arg3) (arg13.view.read (Elt F) X_arg13) (arg14.view.read (Elt F) X_arg14) (arg6.view.read (Elt F) X_arg6) (num ⟨n, hl⟩)),
      View.readAt_full arg15.view X_arg15 inb_S1024x2048_S1024x2048_0_0]
    have e8 : k0_off8 ⟨n, hl⟩ = ![256 * n, 0] := k0_off8_eq _
    simp only [List.cons_append, List.nil_append]
    by_cases hb : 256 * n ≤ (j 0).val ∧ (j 0).val < 256 * n + 256
    · rw [if_pos (by omega)]
      have hk : (⟨(j 0).val / 256, by omega⟩ : Fin 4) = num ⟨n, hl⟩ := Fin.ext (by show (j 0).val / 256 = n; omega)
      have hw : VecWindow.window (arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1)) ![256 * (num ⟨n, hl⟩).val, 0] S256x2048.size (inbZ (num ⟨n, hl⟩))
          = VecWindow.window (arg12.view.read (Elt F) G_arg12) ![256 * (num ⟨n, hl⟩).val, 0] S256x2048.size (inbZ (num ⟨n, hl⟩)) := by
        funext y
        refine (ih _).trans (if_neg ?_)
        show ¬ (256 * n + 1 * (y 0).val < 256 * n)
        omega
      rw [accBlock_eq _ _ _ j (num ⟨n, hl⟩) hk.symm]
      refine (View.read_writes_cons_unit_of_mem arg12.view G_arg12 _ _ _ j (ix2 (n0 := 256) (n1 := 2048) ⟨(j 0).val % 256, Nat.mod_lt _ (by decide)⟩ (j 1)) e8 fun a => ?_).trans ?_
      · match a with
        | 0 => show (j 0).val = 256 * n + (j 0).val % 256; omega
        | 1 => show (j 1).val = 0 + (j 1).val; omega
      · exact congrArg (fun o => k0_pay6 o _ _ _) ((View.readAt_unit arg12.view _ (k0_off8_inb ⟨n, hl⟩) (k0_off8_eq ⟨n, hl⟩) (inbZ (num ⟨n, hl⟩))).trans hw)
    · have hb' : (j 0).val < 256 * n ∨ 256 * n + 256 ≤ (j 0).val := by omega
      rw [View.read_writes_cons_unit_of_not_mem arg12.view G_arg12 _ _ _ j e8 0 ?_, ih]
      rotate_left
      · exact hb'
      by_cases h0 : (j 0).val < 256 * n
      · rw [if_pos h0, if_pos (by omega)]
      · rw [if_neg h0, if_neg (by omega)]

end Loop

end Cert.KernelIdeal.Hand

end
-- ==== Proof.KernelIdealLoop2.lean ====
/- The second loop of the kernel body: the second dyadic rescaling with the residual, and the layer norm,
   32 rows at a time. -/
module

public import proofs.«01_k».proof.Proof.KernelIdealLoop1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- 32 rows of the residual stream: the accumulated products rescaled by the column's dyadic factor, plus the rows of
    `x` times the row's power of two, plus the column's offset. -/
def finishRows (w0 w1 w2 w3 : Vec F S1x2048 .i32) (e : Vec F S32x1 .i32) (x : Vec F S32x2048 .i8) (old : Vec F S32x2048 .i32) : IVec S32x2048 32 :=
  k0_pay54 (k0_pay42 w0) (k0_pay43 w1) (k0_pay44 w2) (k0_pay45 w3) (k0_pay50 w1) (k0_pay52 e) (k0_pay53 x) old

/-- 32 rows of the last result: the layer norm of the rows of the residual stream, rescaled and clamped to int8. -/
def normRows (w0 w1 w2 w3 w4 w5 w6 w7 : Vec F S1x2048 .i32) (e : Vec F S32x1 .i32) (x : Vec F S32x2048 .i8) (old : Vec F S32x2048 .i32) : IVec S32x2048 8 :=
  k0_pay7 (k0_pay60 (F := F) (k0_pay46 w4) (k0_pay47 w5) (k0_pay48 w6) (k0_pay49 w7) (k0_pay51 w5) (k0_pay55 (k0_pay42 w0) (k0_pay43 w1) (k0_pay44 w2) (k0_pay45 w3) (k0_pay50 w1) (k0_pay52 e) (k0_pay53 x) old)
    (k0_pay56 (k0_pay42 w0) (k0_pay43 w1) (k0_pay44 w2) (k0_pay45 w3) (k0_pay50 w1) (k0_pay52 e) (k0_pay53 x) old) (k0_pay57 (k0_pay42 w0) (k0_pay43 w1) (k0_pay44 w2) (k0_pay45 w3) (k0_pay50 w1) (k0_pay52 e) (k0_pay53 x) old) (k0_pay58 (k0_pay42 w0) (k0_pay43 w1) (k0_pay44 w2) (k0_pay45 w3) (k0_pay50 w1) (k0_pay52 e) (k0_pay53 x) old) (k0_pay59 (k0_pay42 w0) (k0_pay43 w1) (k0_pay44 w2) (k0_pay45 w3) (k0_pay50 w1) (k0_pay52 e) (k0_pay53 x) old)) k0_pay61

set_option maxHeartbeats 4000000 in
theorem trip2_snd (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (k : Fin k0_t2_loop.trips) (f_arg10 : BufTy.Contents (Elt F) arg10.view.ty) (f_arg12 : BufTy.Contents (Elt F) arg12.view.ty) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k f_arg10 f_arg12).2 = [⟨Rect.unit (s := S1024x2048) (k0_off10 k) S32x2048.size (k0_off10_inb i k k0_h2), finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect f_arg12)⟩] := by
  unfold tripL_k0_t2 trip_k0_t2
  rfl

set_option maxHeartbeats 4000000 in
theorem trip2_fst (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (k : Fin k0_t2_loop.trips) (f_arg10 : BufTy.Contents (Elt F) arg10.view.ty) (f_arg12 : BufTy.Contents (Elt F) arg12.view.ty) :
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k f_arg10 f_arg12).1 = [⟨Rect.unit (s := S1024x2048) (k0_off10 k) S32x2048.size (k0_off10_inb i k k0_h2), normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect f_arg12)⟩] := by
  unfold tripL_k0_t2 trip_k0_t2
  rfl

theorem inbQ (r : Fin 8) (a : Fin 2) : (![r.val, 0] : Fin 2 → ℕ) a + S1x2048.size a ≤ S8x2048.size a := by
  revert r a; decide +kernel
theorem inbS (k : Fin 32) (a : Fin 2) : (![32 * k.val, 0] : Fin 2 → ℕ) a + S32x1.size a ≤ S1024x128.size a := by
  revert k a; decide +kernel
theorem inbR (k : Fin 32) (a : Fin 2) : (![32 * k.val, 0] : Fin 2 → ℕ) a + S32x2048.size a ≤ S1024x2048.size a := by
  revert k a; decide +kernel
/-- A trip of the second loop as a number below 32. -/
def num2 (k : Fin k0_t2_loop.trips) : Fin 32 := ⟨k.val, Nat.lt_of_lt_of_le k.isLt k0_t2_abs.2.1⟩

/-- 32 rows of the residual stream, from the whole blocks. -/
def zBlockWin (p : Vec F S8x2048 .i32) (sh : Vec F S1024x128 .i32) (x : Vec F S1024x2048 .i8) (old : Vec F S1024x2048 .i32) (k : Fin 32) : Vec F S32x2048 .i32 :=
  finishRows (F := F) (VecWindow.window p ![0, 0] S1x2048.size (inbQ 0)) (VecWindow.window p ![1, 0] S1x2048.size (inbQ 1)) (VecWindow.window p ![2, 0] S1x2048.size (inbQ 2)) (VecWindow.window p ![3, 0] S1x2048.size (inbQ 3)) (VecWindow.window sh ![32 * k.val, 0] S32x1.size (inbS k))
    (VecWindow.window x ![32 * k.val, 0] S32x2048.size (inbR k)) (VecWindow.window old ![32 * k.val, 0] S32x2048.size (inbR k))

/-- The block of the residual stream, 32 rows at a time. -/
def zBlock (p : Vec F S8x2048 .i32) (sh : Vec F S1024x128 .i32) (x : Vec F S1024x2048 .i8) (old : Vec F S1024x2048 .i32) : Vec F S1024x2048 .i32 := fun j =>
  zBlockWin p sh x old ⟨(j 0).val / 32, by have : (j 0).val < 1024 := (j 0).isLt; omega⟩ (ix2 (n0 := 32) (n1 := 2048) ⟨(j 0).val % 32, Nat.mod_lt _ (by decide)⟩ (j 1))

/-- 32 rows of the last result, from the whole blocks. -/
def outBlockWin (p : Vec F S8x2048 .i32) (sh : Vec F S1024x128 .i32) (x : Vec F S1024x2048 .i8) (old : Vec F S1024x2048 .i32) (k : Fin 32) : Vec F S32x2048 .i8 :=
  normRows (F := F) (VecWindow.window p ![0, 0] S1x2048.size (inbQ 0)) (VecWindow.window p ![1, 0] S1x2048.size (inbQ 1)) (VecWindow.window p ![2, 0] S1x2048.size (inbQ 2)) (VecWindow.window p ![3, 0] S1x2048.size (inbQ 3)) (VecWindow.window p ![4, 0] S1x2048.size (inbQ 4)) (VecWindow.window p ![5, 0] S1x2048.size (inbQ 5)) (VecWindow.window p ![6, 0] S1x2048.size (inbQ 6)) (VecWindow.window p ![7, 0] S1x2048.size (inbQ 7)) (VecWindow.window sh ![32 * k.val, 0] S32x1.size (inbS k))
    (VecWindow.window x ![32 * k.val, 0] S32x2048.size (inbR k)) (VecWindow.window old ![32 * k.val, 0] S32x2048.size (inbR k))

/-- The block of the last result, 32 rows at a time. -/
def outBlock (p : Vec F S8x2048 .i32) (sh : Vec F S1024x128 .i32) (x : Vec F S1024x2048 .i8) (old : Vec F S1024x2048 .i32) : Vec F S1024x2048 .i8 := fun j =>
  outBlockWin p sh x old ⟨(j 0).val / 32, by have : (j 0).val < 1024 := (j 0).isLt; omega⟩ (ix2 (n0 := 32) (n1 := 2048) ⟨(j 0).val % 32, Nat.mod_lt _ (by decide)⟩ (j 1))

theorem pb2_succ_arg12 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips) :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (k.val + 1)).2 = [⟨Rect.unit (s := S1024x2048) (k0_off10 k) S32x2048.size (k0_off10_inb i k k0_h2), finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2))⟩] ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2 := by
  rw [pb_k0_t2_succ]
  exact congrArg (· ++ _) (trip2_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k _ _)

theorem pb2_succ_arg10 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips) :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (k.val + 1)).1 = [⟨Rect.unit (s := S1024x2048) (k0_off10 k) S32x2048.size (k0_off10_inb i k k0_h2), normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2))⟩] ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).1 := by
  rw [pb_k0_t2_succ]
  exact congrArg (· ++ _) (trip2_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 k _ _)

theorem zBlock_eq (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips)
    (hw : ∀ j : S1024x2048.Idx, 32 * k.val ≤ (j 0).val → arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) j = arg12.view.read (Elt F) G_arg12 j) :
    finishRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2)) = zBlockWin (F := F) (arg8.view.read (Elt F) X_arg8) (arg4.view.read (Elt F) X_arg4) (arg2.view.read (Elt F) X_arg2) (arg12.view.read (Elt F) G_arg12) (num2 k) := by
  unfold zBlockWin
  rw [View.readAt_unit arg8.view X_arg8 inb_S8x2048_S1x2048_0_0 rfl (inbQ 0), View.readAt_unit arg8.view X_arg8 inb_S8x2048_S1x2048_1_0 rfl (inbQ 1), View.readAt_unit arg8.view X_arg8 inb_S8x2048_S1x2048_2_0 rfl (inbQ 2), View.readAt_unit arg8.view X_arg8 inb_S8x2048_S1x2048_3_0 rfl (inbQ 3),
    View.readAt_unit arg4.view X_arg4 (k0_off9_inb i k k0_h2) (k0_off9_eq k) (inbS (num2 k)),
    View.readAt_unit arg2.view X_arg2 (k0_off10_inb i k k0_h2) (k0_off10_eq k) (inbR (num2 k)),
    View.readAt_unit arg12.view (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) (k0_off10_inb i k k0_h2) (k0_off10_eq k) (inbR (num2 k))]
  refine congrArg (finishRows (F := F) _ _ _ _ _ _) ?_
  funext y
  refine hw _ ?_
  show 32 * k.val ≤ 32 * k.val + 1 * (y 0).val
  omega

theorem outBlock_eq (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (k : Fin k0_t2_loop.trips)
    (hw : ∀ j : S1024x2048.Idx, 32 * k.val ≤ (j 0).val → arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) j = arg12.view.read (Elt F) G_arg12 j) :
    normRows (F := F) (View.readAt (Elt F) arg8.view (Rect.unit (s := S8x2048) (![0, 0]) S1x2048.size (inb_S8x2048_S1x2048_0_0)).toLoadRect X_arg8) (View.readAt (Elt F) arg8.view (Rect.unit (s := S8x2048) (![1, 0]) S1x2048.size (inb_S8x2048_S1x2048_1_0)).toLoadRect X_arg8) (View.readAt (Elt F) arg8.view (Rect.unit (s := S8x2048) (![2, 0]) S1x2048.size (inb_S8x2048_S1x2048_2_0)).toLoadRect X_arg8) (View.readAt (Elt F) arg8.view (Rect.unit (s := S8x2048) (![3, 0]) S1x2048.size (inb_S8x2048_S1x2048_3_0)).toLoadRect X_arg8) (View.readAt (Elt F) arg8.view (Rect.unit (s := S8x2048) (![4, 0]) S1x2048.size (inb_S8x2048_S1x2048_4_0)).toLoadRect X_arg8) (View.readAt (Elt F) arg8.view (Rect.unit (s := S8x2048) (![5, 0]) S1x2048.size (inb_S8x2048_S1x2048_5_0)).toLoadRect X_arg8) (View.readAt (Elt F) arg8.view (Rect.unit (s := S8x2048) (![6, 0]) S1x2048.size (inb_S8x2048_S1x2048_6_0)).toLoadRect X_arg8) (View.readAt (Elt F) arg8.view (Rect.unit (s := S8x2048) (![7, 0]) S1x2048.size (inb_S8x2048_S1x2048_7_0)).toLoadRect X_arg8) (View.readAt (Elt F) arg4.view (Rect.unit (s := S1024x128) (k0_off9 k) S32x1.size (k0_off9_inb i k k0_h2)).toLoadRect X_arg4) (View.readAt (Elt F) arg2.view (Rect.unit (s := S1024x2048) (k0_off10 k) S32x2048.size (k0_off10_inb i k k0_h2)).toLoadRect X_arg2) (View.readAt (Elt F) arg12.view (Rect.unit (s := S1024x2048) (k0_off10 k) S32x2048.size (k0_off10_inb i k k0_h2)).toLoadRect (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2)) = outBlockWin (F := F) (arg8.view.read (Elt F) X_arg8) (arg4.view.read (Elt F) X_arg4) (arg2.view.read (Elt F) X_arg2) (arg12.view.read (Elt F) G_arg12) (num2 k) := by
  unfold outBlockWin
  rw [View.readAt_unit arg8.view X_arg8 inb_S8x2048_S1x2048_0_0 rfl (inbQ 0), View.readAt_unit arg8.view X_arg8 inb_S8x2048_S1x2048_1_0 rfl (inbQ 1), View.readAt_unit arg8.view X_arg8 inb_S8x2048_S1x2048_2_0 rfl (inbQ 2), View.readAt_unit arg8.view X_arg8 inb_S8x2048_S1x2048_3_0 rfl (inbQ 3), View.readAt_unit arg8.view X_arg8 inb_S8x2048_S1x2048_4_0 rfl (inbQ 4), View.readAt_unit arg8.view X_arg8 inb_S8x2048_S1x2048_5_0 rfl (inbQ 5), View.readAt_unit arg8.view X_arg8 inb_S8x2048_S1x2048_6_0 rfl (inbQ 6), View.readAt_unit arg8.view X_arg8 inb_S8x2048_S1x2048_7_0 rfl (inbQ 7),
    View.readAt_unit arg4.view X_arg4 (k0_off9_inb i k k0_h2) (k0_off9_eq k) (inbS (num2 k)),
    View.readAt_unit arg2.view X_arg2 (k0_off10_inb i k k0_h2) (k0_off10_eq k) (inbR (num2 k)),
    View.readAt_unit arg12.view (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 k.val).2) (k0_off10_inb i k k0_h2) (k0_off10_eq k) (inbR (num2 k))]
  refine congrArg (normRows (F := F) _ _ _ _ _ _ _ _ _ _) ?_
  funext y
  refine hw _ ?_
  show 32 * k.val ≤ 32 * k.val + 1 * (y 0).val
  omega

section Loop2
variable (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty)

theorem loop2_read12 (n : ℕ) (hn : n ≤ 32) (j : S1024x2048.Idx) :
    arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).2) j
      = if (j 0).val < 32 * n then zBlock (F := F) (arg8.view.read (Elt F) X_arg8) (arg4.view.read (Elt F) X_arg4) (arg2.view.read (Elt F) X_arg2) (arg12.view.read (Elt F) G_arg12) j else arg12.view.read (Elt F) G_arg12 j := by
  induction n generalizing j with
  | zero => rw [if_neg (by omega)]; rfl
  | succ n ih =>
    have hj0 : (j 0).val < 1024 := (j 0).isLt
    have hl : n < k0_t2_loop.trips := by have : k0_t2_loop.trips = 32 := by decide +kernel
                                         omega
    have ih := fun j => ih (by omega) j
    rw [show (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (n + 1)).2 = _ from pb2_succ_arg12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩]
    have e : k0_off10 ⟨n, hl⟩ = ![32 * n, 0] := k0_off10_eq _
    simp only [List.cons_append, List.nil_append]
    by_cases hb : 32 * n ≤ (j 0).val ∧ (j 0).val < 32 * n + 32
    · rw [if_pos (by omega)]
      have hk : (⟨(j 0).val / 32, by omega⟩ : Fin 32) = num2 ⟨n, hl⟩ := Fin.ext (by show (j 0).val / 32 = n; omega)
      unfold zBlock
      rw [hk]
      refine (View.read_writes_cons_unit_of_mem arg12.view G_arg12 _ _ _ j (ix2 (n0 := 32) (n1 := 2048) ⟨(j 0).val % 32, Nat.mod_lt _ (by decide)⟩ (j 1)) e fun a => ?_).trans ?_
      · match a with
        | 0 => show (j 0).val = 32 * n + (j 0).val % 32; omega
        | 1 => show (j 1).val = 0 + (j 1).val; omega
      · refine congrFun ?_ _
        exact zBlock_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩ (fun j hj => (ih j).trans (if_neg (by have h2 : 32 * n ≤ (j 0).val := hj; omega)))
    · have hb' : (j 0).val < 32 * n ∨ 32 * n + 32 ≤ (j 0).val := by omega
      rw [View.read_writes_cons_unit_of_not_mem arg12.view G_arg12 _ _ _ j e 0 ?_, ih]
      rotate_left
      · exact hb'
      by_cases h0 : (j 0).val < 32 * n
      · rw [if_pos h0, if_pos (by omega)]
      · rw [if_neg h0, if_neg (by omega)]

theorem loop2_read10 (n : ℕ) (hn : n ≤ 32) (j : S1024x2048.Idx) :
    arg10.view.read (Elt F) (arg10.view.writes (Elt F) G_arg10 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).1) j
      = if (j 0).val < 32 * n then outBlock (F := F) (arg8.view.read (Elt F) X_arg8) (arg4.view.read (Elt F) X_arg4) (arg2.view.read (Elt F) X_arg2) (arg12.view.read (Elt F) G_arg12) j else arg10.view.read (Elt F) G_arg10 j := by
  induction n generalizing j with
  | zero => rw [if_neg (by omega)]; rfl
  | succ n ih =>
    have hj0 : (j 0).val < 1024 := (j 0).isLt
    have hl : n < k0_t2_loop.trips := by have : k0_t2_loop.trips = 32 := by decide +kernel
                                         omega
    have ih := fun j => ih (by omega) j
    rw [show (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 (n + 1)).1 = _ from pb2_succ_arg10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩]
    have e : k0_off10 ⟨n, hl⟩ = ![32 * n, 0] := k0_off10_eq _
    simp only [List.cons_append, List.nil_append]
    by_cases hb : 32 * n ≤ (j 0).val ∧ (j 0).val < 32 * n + 32
    · rw [if_pos (by omega)]
      have hk : (⟨(j 0).val / 32, by omega⟩ : Fin 32) = num2 ⟨n, hl⟩ := Fin.ext (by show (j 0).val / 32 = n; omega)
      unfold outBlock
      rw [hk]
      refine (View.read_writes_cons_unit_of_mem arg10.view G_arg10 _ _ _ j (ix2 (n0 := 32) (n1 := 2048) ⟨(j 0).val % 32, Nat.mod_lt _ (by decide)⟩ (j 1)) e fun a => ?_).trans ?_
      · match a with
        | 0 => show (j 0).val = 32 * n + (j 0).val % 32; omega
        | 1 => show (j 1).val = 0 + (j 1).val; omega
      · refine congrFun ?_ _
        exact outBlock_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 ⟨n, hl⟩ (fun j hj => (loop2_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j).trans (if_neg (by have h2 : 32 * n ≤ (j 0).val := hj; omega)))
    · have hb' : (j 0).val < 32 * n ∨ 32 * n + 32 ≤ (j 0).val := by omega
      rw [View.read_writes_cons_unit_of_not_mem arg10.view G_arg10 _ _ _ j e 0 ?_, ih]
      rotate_left
      · exact hb'
      by_cases h0 : (j 0).val < 32 * n
      · rw [if_pos h0, if_pos (by omega)]
      · rw [if_neg h0, if_neg (by omega)]

end Loop2

end Cert.KernelIdeal.Hand

end
-- ==== Proof.KernelIdealStep.lean ====
/- What one grid point leaves in the outputs' blocks, as functions of the blocks it reads. -/
module

public import proofs.«01_k».proof.Proof.KernelIdealPoint
public import proofs.«01_k».proof.Proof.KernelIdealLoop2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word of the second table of dyadic parameters, which the kernel reads from scalar memory. -/
def rq (x7 : Vec F S4 .i32) (r : Fin 4) : Elt F .i32 := x7 (ix1 (n := 4) r)

/-- The words of the activation's tiles at one grid point, from the point's blocks and the rows of `x` as operand. -/
def tilesOf (x1 : Vec F S1024x128 .i32) (x3 : Vec F S2048x1024 .i8) (x4 : Vec F S8x1024 .i32) (x7 : Vec F S4 .i32)
    (xb : Vec F S1024x2048 .bf16) : Fin 4 → Fin 4 → IVec S256x256 32 :=
  tile (F := F) (rq x7 0) (rq x7 1) (rq x7 2) (rq x7 3) x1 xb (k0_pay3 x3) x4

/-- The block of the activation one grid point stores. -/
def gStep (x1 : Vec F S1024x128 .i32) (x3 : Vec F S2048x1024 .i8) (x4 : Vec F S8x1024 .i32) (x7 : Vec F S4 .i32)
    (xb : Vec F S1024x2048 .bf16) : Vec F S1024x1024 .i8 := codesBlock (tilesOf x1 x3 x4 x7 xb)

/-- The block of accumulated products after one grid point, from the block before it. -/
def zStep (x1 : Vec F S1024x128 .i32) (x3 : Vec F S2048x1024 .i8) (x4 : Vec F S8x1024 .i32) (x5 : Vec F S1024x2048 .i8)
    (x7 : Vec F S4 .i32) (xb : Vec F S1024x2048 .bf16) (old : Vec F S1024x2048 .i32) : Vec F S1024x2048 .i32 :=
  accBlock (F := F) old (k0_pay4 x5) (tilesOf x1 x3 x4 x7 xb)

theorem smem_read0 (arg9 : Memref sig .tc .smem S4 .i32) (harg9 : arg9.IsWhole) (x7 : Vec F S4 .i32) (y : S1.Idx) :
    View.readAt (Elt F) arg9.view (Rect.unit (s := S4) ![0] S1.size inb_S4_S1_0).toLoadRect (harg9.unread x7) y = rq x7 0 := by
  refine (congrFun (View.readAt_unit arg9.view (harg9.unread x7) inb_S4_S1_0 rfl inb_S4_S1_0) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 0 + 1 * (y 0).val = 0
  have : (y 0).val < 1 := (y 0).isLt
  omega

theorem smem_read1 (arg9 : Memref sig .tc .smem S4 .i32) (harg9 : arg9.IsWhole) (x7 : Vec F S4 .i32) (y : S1.Idx) :
    View.readAt (Elt F) arg9.view (Rect.unit (s := S4) ![1] S1.size inb_S4_S1_1).toLoadRect (harg9.unread x7) y = rq x7 1 := by
  refine (congrFun (View.readAt_unit arg9.view (harg9.unread x7) inb_S4_S1_1 rfl inb_S4_S1_1) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 1 + 1 * (y 0).val = 1
  have : (y 0).val < 1 := (y 0).isLt
  omega

theorem smem_read2 (arg9 : Memref sig .tc .smem S4 .i32) (harg9 : arg9.IsWhole) (x7 : Vec F S4 .i32) (y : S1.Idx) :
    View.readAt (Elt F) arg9.view (Rect.unit (s := S4) ![2] S1.size inb_S4_S1_2).toLoadRect (harg9.unread x7) y = rq x7 2 := by
  refine (congrFun (View.readAt_unit arg9.view (harg9.unread x7) inb_S4_S1_2 rfl inb_S4_S1_2) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 2 + 1 * (y 0).val = 2
  have : (y 0).val < 1 := (y 0).isLt
  omega

theorem smem_read3 (arg9 : Memref sig .tc .smem S4 .i32) (harg9 : arg9.IsWhole) (x7 : Vec F S4 .i32) (y : S1.Idx) :
    View.readAt (Elt F) arg9.view (Rect.unit (s := S4) ![3] S1.size inb_S4_S1_3).toLoadRect (harg9.unread x7) y = rq x7 3 := by
  refine (congrFun (View.readAt_unit arg9.view (harg9.unread x7) inb_S4_S1_3 rfl inb_S4_S1_3) y).trans ?_
  rw [harg9.read_unread]
  unfold rq
  show x7 _ = x7 _
  congr 1
  funext a
  have ha : a = 0 := Fin.ext (by have := a.isLt; show a.val = 0; exact Nat.lt_one_iff.mp this)
  subst ha
  refine Fin.ext ?_
  show 3 + 1 * (y 0).val = 3
  have : (y 0).val < 1 := (y 0).isLt
  omega

theorem fin9 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4) :
    arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).1) = gStep x1 x3 x4 x7 xb := by
  funext j
  have hj : (j 0).val < 1024 := (j 0).isLt
  rw [loop1_read11 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n (by omega) j, if_pos (by omega), hX3, hX6, hX13, hX14, h13, h14, h15, h16]
  rfl

theorem fin10 (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg12 : BufTy.Contents (Elt F) arg12.view.ty) (G_arg16 : BufTy.Contents (Elt F) arg16.view.ty) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4)
    (hX15 : arg15.view.read (Elt F) X_arg15 = k0_pay4 x5) (hG12 : arg12.view.read (Elt F) G_arg12 = old) :
    arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n).2.1) = zStep x1 x3 x4 x5 x7 xb old := by
  funext j
  have hj : (j 0).val < 1024 := (j 0).isLt
  rw [loop1_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 G_arg12 G_arg16 n (by omega) j, if_pos (by omega), hX3, hX6, hX13, hX14, hX15, hG12, h13, h14, h15, h16]
  rfl

theorem fin10A (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (v13 : Elt F .i32) (v14 : Elt F .i32) (v15 : Elt F .i32) (v16 : Elt F .i32) (X_arg3 : BufTy.Contents (Elt F) arg3.view.ty) (X_arg6 : BufTy.Contents (Elt F) arg6.view.ty) (X_arg13 : BufTy.Contents (Elt F) arg13.view.ty) (X_arg14 : BufTy.Contents (Elt F) arg14.view.ty) (X_arg15 : BufTy.Contents (Elt F) arg15.view.ty)  (G_arg11 : BufTy.Contents (Elt F) arg11.view.ty) (G_arg16 : BufTy.Contents (Elt F) arg16.view.ty) (J : BufTy.Contents (Elt F) arg12.view.ty) (L0 : List (View.Piece (Elt F) S1024x2048 .i32)) (x1 : Vec F S1024x128 .i32) (x3 : Vec F S2048x1024 .i8) (x4 : Vec F S8x1024 .i32) (x5 : Vec F S1024x2048 .i8) (x7 : Vec F S4 .i32) (xb : Vec F S1024x2048 .bf16) (old : Vec F S1024x2048 .i32)
    (h13 : v13 = rq x7 0) (h14 : v14 = rq x7 1) (h15 : v15 = rq x7 2) (h16 : v16 = rq x7 3)
    (hX3 : arg3.view.read (Elt F) X_arg3 = x1) (hX6 : arg6.view.read (Elt F) X_arg6 = x4) (hX13 : arg13.view.read (Elt F) X_arg13 = xb)
    (hX14 : arg14.view.read (Elt F) X_arg14 = k0_pay3 x3) (n : ℕ) (hn : n = 4)
    (hX15 : arg15.view.read (Elt F) X_arg15 = k0_pay4 x5) (hG12 : arg12.view.read (Elt F) (arg12.view.writes (Elt F) J L0) = old) :
    arg12.view.read (Elt F) (arg12.view.writes (Elt F) J ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 (arg12.view.writes (Elt F) J L0) G_arg16 n).2.1 ++ L0)) = zStep x1 x3 x4 x5 x7 xb old := by
  rw [View.writes_append]
  exact fin10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v14 v15 v16 X_arg3 X_arg6 X_arg13 X_arg14 X_arg15 G_arg11 (arg12.view.writes (Elt F) J L0) G_arg16 x1 x3 x4 x5 x7 xb old h13 h14 h15 h16 hX3 hX6 hX13 hX14 n hn hX15 hG12

theorem fin8C (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (x0 : Vec F S1024x2048 .i8) (x2 : Vec F S1024x128 .i32) (x6 : Vec F S8x2048 .i32) (z : Vec F S1024x2048 .i32)
    (hX2 : arg2.view.read (Elt F) X_arg2 = x0) (hX4 : arg4.view.read (Elt F) X_arg4 = x2) (hX8 : arg8.view.read (Elt F) X_arg8 = x6)
    (hz : arg12.view.read (Elt F) G_arg12 = z) (n : ℕ) (hn : n = 32) :
    arg10.view.read (Elt F) (arg10.view.writes (Elt F) G_arg10 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).1) = outBlock x6 x2 x0 z := by
  funext j
  have hj : (j 0).val < 1024 := (j 0).isLt
  rw [loop2_read10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j, if_pos (by omega), hX2, hX4, hX8, hz]

theorem fin10C (𝒱 : Variants) (c : Dev nD) (bd : Option 𝒱.V) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (k0_h2 : k0_cond2 i = 1#1) (X_arg2 : BufTy.Contents (Elt F) arg2.view.ty) (X_arg4 : BufTy.Contents (Elt F) arg4.view.ty) (X_arg8 : BufTy.Contents (Elt F) arg8.view.ty) (G_arg10 : BufTy.Contents (Elt F) arg10.view.ty) (G_arg12 : BufTy.Contents (Elt F) arg12.view.ty) (x0 : Vec F S1024x2048 .i8) (x2 : Vec F S1024x128 .i32) (x6 : Vec F S8x2048 .i32) (z : Vec F S1024x2048 .i32)
    (hX2 : arg2.view.read (Elt F) X_arg2 = x0) (hX4 : arg4.view.read (Elt F) X_arg4 = x2) (hX8 : arg8.view.read (Elt F) X_arg8 = x6)
    (hz : arg12.view.read (Elt F) G_arg12 = z) (n : ℕ) (hn : n = 32) :
    arg12.view.read (Elt F) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n).2) = zBlock x6 x2 x0 z := by
  funext j
  have hj : (j 0).val < 1024 := (j 0).isLt
  rw [loop2_read12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg2 X_arg4 X_arg8 G_arg10 G_arg12 n (by omega) j, if_pos (by omega), hX2, hX4, hX8, hz]

theorem read_xb (arg13 : Memref sig .tc .vmem S1024x2048 .bf16) (arg2 : Memref sig .tc .vmem S1024x2048 .i8) (h : arg2.IsWhole) (f : BufTy.Contents (Elt F) arg13.view.ty) (x : Vec F S1024x2048 .i8) :
    arg13.view.read (Elt F) (arg13.view.writes (Elt F) f [⟨Rect.unit (s := S1024x2048) ![0, 0] S1024x2048.size inb_S1024x2048_S1024x2048_0_0,
      k0_pay1 (View.readAt (Elt F) arg2.view (Rect.unit (s := S1024x2048) ![0, 0] S1024x2048.size inb_S1024x2048_S1024x2048_0_0).toLoadRect (h.unread x))⟩]) = k0_pay1 x := by
  rw [View.readAt_full, h.read_unread]
  exact View.read_writes_full _ _ _ _ _

theorem read_w1b (arg14 : Memref sig .tc .vmem S2048x1024 .bf16) (arg5 : Memref sig .tc .vmem S2048x1024 .i8) (h : arg5.IsWhole) (f : BufTy.Contents (Elt F) arg14.view.ty) (x : Vec F S2048x1024 .i8) :
    arg14.view.read (Elt F) (arg14.view.writes (Elt F) f [⟨Rect.unit (s := S2048x1024) ![0, 0] S2048x1024.size inb_S2048x1024_S2048x1024_0_0,
      k0_pay3 (View.readAt (Elt F) arg5.view (Rect.unit (s := S2048x1024) ![0, 0] S2048x1024.size inb_S2048x1024_S2048x1024_0_0).toLoadRect (h.unread x))⟩]) = k0_pay3 x := by
  rw [View.readAt_full, h.read_unread]
  exact View.read_writes_full _ _ _ _ _

theorem read_w2b (arg15 : Memref sig .tc .vmem S1024x2048 .bf16) (arg7 : Memref sig .tc .vmem S1024x2048 .i8) (h : arg7.IsWhole) (f : BufTy.Contents (Elt F) arg15.view.ty) (x : Vec F S1024x2048 .i8) :
    arg15.view.read (Elt F) (arg15.view.writes (Elt F) f [⟨Rect.unit (s := S1024x2048) ![0, 0] S1024x2048.size inb_S1024x2048_S1024x2048_0_0,
      k0_pay4 (View.readAt (Elt F) arg7.view (Rect.unit (s := S1024x2048) ![0, 0] S1024x2048.size inb_S1024x2048_S1024x2048_0_0).toLoadRect (h.unread x))⟩]) = k0_pay4 x := by
  rw [View.readAt_full, h.read_unread]
  exact View.read_writes_full _ _ _ _ _

theorem read_zero (arg12 : Memref sig .tc .vmem S1024x2048 .i32) (f : BufTy.Contents (Elt F) arg12.view.ty) :
    arg12.view.read (Elt F) (arg12.view.writes (Elt F) f [⟨Rect.unit (s := S1024x2048) ![0, 0] S1024x2048.size inb_S1024x2048_S1024x2048_0_0, k0_pay2⟩]) = k0_pay2 := by
  exact View.read_writes_full _ _ _ _ _

end Cert.KernelIdeal.Hand

end
-- ==== Proof.KernelIdealRunA.lean ====
/- The kernel body run at a grid point, case A. -/
module

public import proofs.«01_k».proof.Proof.KernelIdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a row block's first point the body stores the rows of `x` as operand and zeroes the accumulator, then adds the point's products to it and stores the block of the activation. -/
theorem run_A (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : cond0_0 i) (hc1 : ¬cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xi8 : Vec F S1024x2048 .i8) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare (gStep x1 x3 x4 x7 (k0_pay1 x0)) ∗ owns (c : Thread nD τ) arg12 fullShare (zStep x1 x3 x4 x5 x7 (k0_pay1 x0) k0_pay2) ∗ owns (c : Thread nD τ) arg13 fullShare (k0_pay1 x0) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 (k0_pay1 x0) k0_pay2 (smem_read0 arg9 harg9 x7 _) (smem_read1 arg9 harg9 x7 _) (smem_read2 arg9 harg9 x7 _) (smem_read3 arg9 harg9 x7 _) (harg3.read_unread _) (harg6.read_unread _) (read_xb arg13 arg2 harg2 _ x0) (read_w1b arg14 arg5 harg5 _ x3) _ (by decide +kernel)
  isplitl [H10]
  · iexists _; isplitr; swap; · iexact H10
    ipureintro
    exact fin10A Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _  x1 x3 x4 x5 x7 (k0_pay1 x0) k0_pay2 (smem_read0 arg9 harg9 x7 _) (smem_read1 arg9 harg9 x7 _) (smem_read2 arg9 harg9 x7 _) (smem_read3 arg9 harg9 x7 _) (harg3.read_unread _) (harg6.read_unread _) (read_xb arg13 arg2 harg2 _ x0) (read_w1b arg14 arg5 harg5 _ x3) _ (by decide +kernel) (read_w2b arg15 arg7 harg7 _ x5) (read_zero arg12 _)
  isplitl [HS0]
  · iexists _; isplitr; swap; · iexact HS0
    ipureintro
    exact read_xb arg13 arg2 harg2 _ x0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand

end
-- ==== Proof.KernelIdealRunB.lean ====
/- The kernel body run at a grid point, case B. -/
module

public import proofs.«01_k».proof.Proof.KernelIdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a point between, the body adds the point's products to the accumulator and stores the block of the activation. -/
theorem run_B (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : ¬cond0_0 i) (hc1 : ¬cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xi8 : Vec F S1024x2048 .i8) (xo10 : Vec F S1024x2048 .i32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xo10 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare (gStep x1 x3 x4 x7 xs0) ∗ owns (c : Thread nD τ) arg12 fullShare (zStep x1 x3 x4 x5 x7 xs0 xo10) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel)
  isplitl [H10]
  · iexists _; isplitr; swap; · iexact H10
    ipureintro
    first | exact fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _) | (rw [View.writes_append]; exact fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _))
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand

end
-- ==== Proof.KernelIdealRunC.lean ====
/- The kernel body run at a grid point, case C. -/
module

public import proofs.«01_k».proof.Proof.KernelIdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- At a row block's last point the body does the same and then rescales the accumulator into the residual stream and stores its layer norm. -/
theorem run_C (c : Dev nD) (i : grid0.Coords) (arg2 : Memref sig .tc .vmem S1024x2048 .i8) (harg2 : arg2.IsWhole) (arg3 : Memref sig .tc .vmem S1024x128 .i32) (harg3 : arg3.IsWhole) (arg4 : Memref sig .tc .vmem S1024x128 .i32) (harg4 : arg4.IsWhole) (arg5 : Memref sig .tc .vmem S2048x1024 .i8) (harg5 : arg5.IsWhole) (arg6 : Memref sig .tc .vmem S8x1024 .i32) (harg6 : arg6.IsWhole) (arg7 : Memref sig .tc .vmem S1024x2048 .i8) (harg7 : arg7.IsWhole) (arg8 : Memref sig .tc .vmem S8x2048 .i32) (harg8 : arg8.IsWhole) (arg9 : Memref sig .tc .smem S4 .i32) (harg9 : arg9.IsWhole) (arg10 : Memref sig .tc .vmem S1024x2048 .i8) (harg10 : arg10.IsWhole) (arg11 : Memref sig .tc .vmem S1024x1024 .i8) (harg11 : arg11.IsWhole) (arg12 : Memref sig .tc .vmem S1024x2048 .i32) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S256x1024 .bf16) (harg16 : arg16.IsWhole) (hc0 : ¬cond0_0 i) (hc1 : cond0_1 i)
    (x0 : Vec F S1024x2048 .i8) (x1 : Vec F S1024x128 .i32) (x2 : Vec F S1024x128 .i32) (x3 : Vec F S2048x1024 .i8) (x4 : Vec F S8x1024 .i32) (x5 : Vec F S1024x2048 .i8) (x6 : Vec F S8x2048 .i32) (x7 : Vec F S4 .i32) (xo10 : Vec F S1024x2048 .i32) (xs0 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xo10 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlock x6 x2 x0 (zStep x1 x3 x4 x5 x7 xs0 xo10)) ∗ owns (c : Thread nD τ) arg11 fullShare (gStep x1 x3 x4 x7 xs0) ∗ owns (c : Thread nD τ) arg12 fullShare (zBlock x6 x2 x0 (zStep x1 x3 x4 x5 x7 xs0 xo10)) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_ibert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ibert_ffn_eq_skeleton]; unfold cc0_ibert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    first | exact fin8C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel) | (rw [View.writes_append]; exact fin8C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel))
  isplitl [H9]
  · iexists _; isplitr; swap; · iexact H9
    ipureintro
    exact fin9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel)
  isplitl [H10]
  · iexists _; isplitr; swap; · iexact H10
    ipureintro
    first | exact fin10C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel) | (rw [View.writes_append]; exact fin10C Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ x0 x2 x6 (zStep x1 x3 x4 x5 x7 xs0 xo10) (harg2.read_unread _) (harg4.read_unread _) (harg8.read_unread _) (fin10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _  x1 x3 x4 x5 x7 xs0 xo10 (smem_read0 arg9 harg9 x7 _) (smem_read1 arg9 harg9 x7 _) (smem_read2 arg9 harg9 x7 _) (smem_read3 arg9 harg9 x7 _) (harg3.read_unread _) (harg6.read_unread _) (harg13.read_unread _) (read_w1b arg14 arg5 harg5 _ x3) _ (by decide +kernel) (read_w2b arg15 arg7 harg7 _ x5) (harg12.read_unread _)) _ (by decide +kernel))
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand

end
-- ==== Proof.KernelIdealFrame.lean ====
/- The pipeline's proof data: what every staging buffer holds after every grid point; the body's triple at a
   generic point; the launch and the frame of the kernel. -/
module

public import proofs.«01_k».proof.Proof.KernelIdealRunA
public import proofs.«01_k».proof.Proof.KernelIdealRunB
public import proofs.«01_k».proof.Proof.KernelIdealRunC
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers and the rows of `x` as operand hold after the body at position `n`: at a row
    block's first point the accumulator starts from zero, at its last the residual stream and its layer norm are stored. -/
def outsAt0 (c : Dev nD) : (n : ℕ) → n < cfg0.N → Vec F S1024x2048 .i8 × Vec F S1024x1024 .i8 × Vec F S1024x2048 .i32 × Vec F S1024x2048 .bf16
  | 0, hn => (VO0_8.read (Elt F) VO0_8.junk, gStep (iblk m c 1 ⟨0, hn⟩) (iblk m c 3 ⟨0, hn⟩) (iblk m c 4 ⟨0, hn⟩) (iblk m c 7 ⟨0, hn⟩) (k0_pay1 (iblk m c 0 ⟨0, hn⟩)), zStep (iblk m c 1 ⟨0, hn⟩) (iblk m c 3 ⟨0, hn⟩) (iblk m c 4 ⟨0, hn⟩) (iblk m c 5 ⟨0, hn⟩) (iblk m c 7 ⟨0, hn⟩) (k0_pay1 (iblk m c 0 ⟨0, hn⟩)) k0_pay2, (k0_pay1 (iblk m c 0 ⟨0, hn⟩)))
  | n + 1, hn =>
    if (n + 1) % 16 = 0 then (VO0_8.read (Elt F) VO0_8.junk, gStep (iblk m c 1 ⟨n + 1, hn⟩) (iblk m c 3 ⟨n + 1, hn⟩) (iblk m c 4 ⟨n + 1, hn⟩) (iblk m c 7 ⟨n + 1, hn⟩) (k0_pay1 (iblk m c 0 ⟨n + 1, hn⟩)), zStep (iblk m c 1 ⟨n + 1, hn⟩) (iblk m c 3 ⟨n + 1, hn⟩) (iblk m c 4 ⟨n + 1, hn⟩) (iblk m c 5 ⟨n + 1, hn⟩) (iblk m c 7 ⟨n + 1, hn⟩) (k0_pay1 (iblk m c 0 ⟨n + 1, hn⟩)) k0_pay2, (k0_pay1 (iblk m c 0 ⟨n + 1, hn⟩)))
    else if (n + 1) % 16 = 15 then (outBlock (iblk m c 6 ⟨n + 1, hn⟩) (iblk m c 2 ⟨n + 1, hn⟩) (iblk m c 0 ⟨n + 1, hn⟩) (zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1), gStep (iblk m c 1 ⟨n + 1, hn⟩) (iblk m c 3 ⟨n + 1, hn⟩) (iblk m c 4 ⟨n + 1, hn⟩) (iblk m c 7 ⟨n + 1, hn⟩) (outsAt0 c n (Nat.lt_of_succ_lt hn)).2.2.2, zBlock (iblk m c 6 ⟨n + 1, hn⟩) (iblk m c 2 ⟨n + 1, hn⟩) (iblk m c 0 ⟨n + 1, hn⟩) (zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1), (outsAt0 c n (Nat.lt_of_succ_lt hn)).2.2.2)
    else (VO0_8.read (Elt F) VO0_8.junk, gStep (iblk m c 1 ⟨n + 1, hn⟩) (iblk m c 3 ⟨n + 1, hn⟩) (iblk m c 4 ⟨n + 1, hn⟩) (iblk m c 7 ⟨n + 1, hn⟩) (outsAt0 c n (Nat.lt_of_succ_lt hn)).2.2.2, zStep (iblk m c 1 ⟨n + 1, hn⟩) (iblk m c 3 ⟨n + 1, hn⟩) (iblk m c 4 ⟨n + 1, hn⟩) (iblk m c 5 ⟨n + 1, hn⟩) (iblk m c 7 ⟨n + 1, hn⟩) (outsAt0 c n (Nat.lt_of_succ_lt hn)).2.2.2 (outsAt0 c n (Nat.lt_of_succ_lt hn)).2.2.1, (outsAt0 c n (Nat.lt_of_succ_lt hn)).2.2.2)

theorem outsAt0_A (c : Dev nD) (t : Fin cfg0.N) (h0 : t.val % 16 = 0) :
    outsAt0 m c t.val t.isLt = (VO0_8.read (Elt F) VO0_8.junk, gStep (iblk m c 1 t) (iblk m c 3 t) (iblk m c 4 t) (iblk m c 7 t) (k0_pay1 (iblk m c 0 t)), zStep (iblk m c 1 t) (iblk m c 3 t) (iblk m c 4 t) (iblk m c 5 t) (iblk m c 7 t) (k0_pay1 (iblk m c 0 t)) k0_pay2, (k0_pay1 (iblk m c 0 t))) := by
  obtain ⟨n, hn⟩ := t
  cases n with
  | zero => rfl
  | succ n => exact if_pos h0

theorem outsAt0_B (c : Dev nD) (t : Fin cfg0.N) (h0 : ¬t.val % 16 = 0) (h1 : ¬t.val % 16 = 15) :
    outsAt0 m c t.val t.isLt = (VO0_8.read (Elt F) VO0_8.junk, gStep (iblk m c 1 t) (iblk m c 3 t) (iblk m c 4 t) (iblk m c 7 t) (outsAt0 m c (t.val - 1) (Nat.lt_of_le_of_lt (Nat.sub_le _ _) t.isLt)).2.2.2, zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact absurd (Nat.zero_mod _) h0
  | succ n => exact (if_neg h0).trans (if_neg h1)

theorem outsAt0_C (c : Dev nD) (t : Fin cfg0.N) (h0 : ¬t.val % 16 = 0) (h1 : t.val % 16 = 15) :
    outsAt0 m c t.val t.isLt = (outBlock (iblk m c 6 t) (iblk m c 2 t) (iblk m c 0 t) (zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1), gStep (iblk m c 1 t) (iblk m c 3 t) (iblk m c 4 t) (iblk m c 7 t) (outsAt0 m c (t.val - 1) (Nat.lt_of_le_of_lt (Nat.sub_le _ _) t.isLt)).2.2.2, zBlock (iblk m c 6 t) (iblk m c 2 t) (iblk m c 0 t) (zStep (iblk m c 1 t) (iblk m c 3 t) (iblk m c 4 t) (iblk m c 5 t) (iblk m c 7 t) (outsAt0 m c (t.val - 1) (Nat.lt_of_le_of_lt (Nat.sub_le _ _) t.isLt)).2.2.2 (outsAt0 m c (t.val - 1) (Nat.lt_of_le_of_lt (Nat.sub_le _ _) t.isLt)).2.2.1), (outsAt0 m c (t.val - 1) (Nat.lt_of_le_of_lt (Nat.sub_le _ _) t.isLt)).2.2.2) := by
  obtain ⟨n, hn⟩ := t
  cases n with
  | zero => exact absurd (Nat.zero_mod _) h0
  | succ n => exact (if_neg h0).trans (if_pos h1)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 16 = 0) (h1 : ¬t.val % 16 = 15) (d) :
    (dats m 0 c).before 10 t d = (outsAt0 m c (t.val - 1) (Nat.lt_of_le_of_lt (Nat.sub_le _ _) t.isLt)).2.2.1 := by
  have hN : t.val < 160 := lt_of_lt_of_eq t.isLt (show cfg0.N = 160 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 16 = 0) (h1 : t.val % 16 = 15) (d) :
    (dats m 0 c).before 10 t d = (outsAt0 m c (t.val - 1) (Nat.lt_of_le_of_lt (Nat.sub_le _ _) t.isLt)).2.2.1 := by
  have hN : t.val < 160 := lt_of_lt_of_eq t.isLt (show cfg0.N = 160 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 160 := lt_of_lt_of_eq t.isLt (show cfg0.N = 160 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · rw [PhiS_castSucc m c t, PhiS_zero m c _ _ hz, PhiA0_eq]
        rw [outsAt0_A m c t h0]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10
      · rw [PhiS_castSucc m c t, PhiS_pos m c _ _ hz]
        rw [outsAt0_A m c t h0]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [HS0]; · iexists _; iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · exfalso; have hN : t.val < 160 := lt_of_lt_of_eq t.isLt (show cfg0.N = 160 from N_0); omega
      · rw [PhiS_castSucc m c t, PhiS_pos m c _ _ hz]
        rw [outsAt0_C m c t h0 h1]
        simp only [before0_10_C m c t h0 h1]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · iexact H8
        isplitl [H9]
        · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      by_cases hz : t.val = 0
      · exfalso; have hN : t.val < 160 := lt_of_lt_of_eq t.isLt (show cfg0.N = 160 from N_0); omega
      · rw [PhiS_castSucc m c t, PhiS_pos m c _ _ hz]
        rw [outsAt0_B m c t h0 h1]
        simp only [before0_10_B m c t h0 h1]
        (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]
        · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 160 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Hand

end
-- ==== Proof.Words.lean ====
module

public import Idealize.ShloMosaic.PureOps.Ideal
public import Idealize.ShloMosaic.Lib.KernelVsHost
public import Idealize.ShloMosaic.Lib.Pointwise.Tactic

@[expose] public section

set_option maxRecDepth 16384

noncomputable section

/-! The word arithmetic of the block, element by element: the rescaling of an accumulator, the integer GELU, the
    clamp to int8, and the exact integer dot product. Both programs are read as these functions. -/

namespace Cert.Ffn

open Idealize.ShloMosaic

/-! ### The rescaling -/

/-- The rescaling of `a` by `m` with the first shift `p`, its mask and the second shift `q` given. -/
def dy (a m p mask q : BitVec 32) : BitVec 32 :=
  IntOp.shrsi .vector (IntOp.addi (IntOp.shrsi .vector (IntOp.addi (IntOp.muli (IntOp.shrsi .vector a p) m)
    (IntOp.shrsi .vector (IntOp.muli (IntOp.andi a mask) m) p)) q) 1#32) 1#32

/-- The first shift: the lesser of `k - 1` and 16. -/
def pOf (k : BitVec 32) : BitVec 32 := IntOp.minsi (IntOp.subi k 1#32) 16#32

/-- The mask of the bits the first shift drops. -/
def maskOf (p : BitVec 32) : BitVec 32 := IntOp.subi (IntOp.shli .vector 1#32 p) 1#32

/-- What is left of the shift by `k - 1` after the first one. -/
def qOf (k : BitVec 32) : BitVec 32 := IntOp.subi (IntOp.subi k 1#32) (pOf k)

/-- `a * m / 2 ^ k`, rounded, as the integer arithmetic has it. -/
def dyadic (a m k : BitVec 32) : BitVec 32 := dy a m (pOf k) (maskOf (pOf k)) (qOf k)

/-! ### The clamp and GELU -/

/-- The clamp to `[-65535, 65535]`. -/
def clampH (v : BitVec 32) : BitVec 32 := IntOp.minsi (IntOp.maxsi v 4294901761#32) 65535#32

/-- The clamp to `[-127, 127]`. -/
def clamp8 (v : BitVec 32) : BitVec 32 := IntOp.minsi (IntOp.maxsi v 4294967169#32) 127#32

/-- The polynomial of GELU's error function at the clamped magnitude, without the sign. -/
def polyOf (h : BitVec 32) : BitVec 32 :=
  IntOp.subi 464742825#32 (IntOp.muli (IntOp.subi (IntOp.minsi (IntOp.absi h) 20494#32) 20494#32)
    (IntOp.subi (IntOp.minsi (IntOp.absi h) 20494#32) 20494#32))

/-- GELU with the sign put in by a choice between the polynomial and its negative. -/
def geluSel (h : BitVec 32) : BitVec 32 :=
  IntOp.muli h (IntOp.addi (IntOp.shrsi .vector
    (Scalar.select (IntOp.cmpi .slt h 0#32) (IntOp.subi 0#32 (polyOf h)) (polyOf h)) 16#32) 7091#32)

/-- GELU with the sign as a factor. -/
def gelu (h : BitVec 32) : BitVec 32 :=
  IntOp.muli h (IntOp.addi (IntOp.shrsi .vector
    (IntOp.muli (IntOp.subi ((IntOp.cmpi .sgt h 0#32).setWidth 32) ((IntOp.cmpi .slt h 0#32).setWidth 32)) (polyOf h))
      16#32) 7091#32)

theorem maxsi_comm (a b : BitVec 32) : IntOp.maxsi a b = IntOp.maxsi b a := by
  simp only [IntOp.maxsi, BitVec.slt, decide_eq_true_eq]
  split <;> split <;> first | rfl | omega | (apply BitVec.eq_of_toInt_eq; omega)

theorem minsi_comm (a b : BitVec 32) : IntOp.minsi a b = IntOp.minsi b a := by
  simp only [IntOp.minsi, BitVec.slt, decide_eq_true_eq]
  split <;> split <;> first | rfl | omega | (apply BitVec.eq_of_toInt_eq; omega)

/-- The two ways of putting the sign in agree: at zero the outer factor is zero. -/
theorem geluSel_eq (h : BitVec 32) : geluSel h = gelu h := by
  by_cases h0 : h = 0#32
  · subst h0; simp [geluSel, gelu, IntOp.muli]
  · have hne : h.toInt ≠ 0 := fun e => h0 (BitVec.eq_of_toInt_eq (by simpa using e))
    rcases lt_or_gt_of_ne hne with hl | hl
    · have e1 : IntOp.cmpi .slt h 0#32 = 1#1 := by simp [IntOp.cmpi, BitVec.slt, hl]
      have e2 : IntOp.cmpi .sgt h 0#32 = 0#1 := by simp [IntOp.cmpi, BitVec.slt, not_lt.mpr hl.le]
      have e3 : IntOp.muli (IntOp.subi ((0#1).setWidth 32) ((1#1).setWidth 32)) (polyOf h) = IntOp.subi 0#32 (polyOf h) := by
        have : IntOp.subi ((0#1).setWidth 32) ((1#1).setWidth 32) = -1#32 := by decide
        rw [this, IntOp.muli, IntOp.subi, BitVec.neg_mul, BitVec.one_mul, BitVec.zero_sub]
      rw [geluSel, gelu, e1, e2, e3]; rfl
    · have e1 : IntOp.cmpi .slt h 0#32 = 0#1 := by simp [IntOp.cmpi, BitVec.slt, not_lt.mpr hl.le]
      have e2 : IntOp.cmpi .sgt h 0#32 = 1#1 := by simp [IntOp.cmpi, BitVec.slt, hl]
      have e3 : IntOp.muli (IntOp.subi ((1#1).setWidth 32) ((0#1).setWidth 32)) (polyOf h) = polyOf h := by
        have : IntOp.subi ((1#1).setWidth 32) ((0#1).setWidth 32) = 1#32 := by decide
        rw [this]; simp [IntOp.muli]
      rw [geluSel, gelu, e1, e2, e3]; rfl

/-- A word clamped to `[-127, 127]` is in that range. -/
theorem clamp8_range (v : BitVec 32) : -127 ≤ (clamp8 v).toInt ∧ (clamp8 v).toInt ≤ 127 := by
  have c1 : (4294967169#32).toInt = -127 := by decide
  have c2 : (127#32).toInt = 127 := by decide
  simp only [clamp8, IntOp.minsi, IntOp.maxsi, BitVec.slt, decide_eq_true_eq]
  split <;> split at * <;> omega

/-- Narrowing a clamped word to int8 keeps its value. -/
theorem toInt_code (v : BitVec 32) : ((clamp8 v).setWidth 8).toInt = (clamp8 v).toInt := by
  have h := clamp8_range v
  rw [BitVec.toInt_setWidth]
  rw [Int.bmod_def]
  rcases lt_or_ge (clamp8 v).toInt 0 with hl | hl <;>
  · have := BitVec.toInt_eq_toNat_cond (clamp8 v)
    split at this <;> omega

/-- Shifting by `d` is multiplying by the power of two, and by zero when `d` is outside `[0, 32)`. -/
theorem shli_eq_mul (x d : BitVec 32) :
    IntOp.shli .vector x d = x * (if d.toNat < 32 then 1#32 <<< d else 0#32) := by
  simp only [IntOp.shli]
  split
  · rw [BitVec.shiftLeft_eq', ← BitVec.mul_twoPow_eq_shiftLeft, BitVec.shiftLeft_eq', BitVec.twoPow]
  · simp [IntOp.cornerWord]

/-! ### The dot product -/

/-- The integer dot product, wrapped to 32 bits. -/
def dotI {K : ℕ} (a b : Fin K → ℤ) : BitVec 32 := BitVec.ofInt 32 (∑ k, a k * b k)

/-- A sum of products of integers, read as extended reals. -/
theorem coe_dot {K : ℕ} (a b : Fin K → ℤ) :
    (∑ k, (((a k : ℤ) : ℝ) : EReal) * (((b k : ℤ) : ℝ) : EReal)) = (((∑ k, a k * b k : ℤ) : ℝ) : EReal) := by
  have : ∀ s : Finset (Fin K), (∑ k ∈ s, (((a k : ℤ) : ℝ) : EReal) * (((b k : ℤ) : ℝ) : EReal))
      = (((∑ k ∈ s, a k * b k : ℤ) : ℝ) : EReal) := by
    intro s
    induction s using Finset.induction_on with
    | empty => simp
    | insert k s hk ih =>
      rw [Finset.sum_insert hk, Finset.sum_insert hk, ih]
      push_cast
      rfl
  exact this _

/-- Rounding an integer to a 32-bit word is exact when it fits. -/
theorem fptosi_int (n : ℤ) (h1 : -2147483648 ≤ n) (h2 : n ≤ 2147483647) :
    Ideal.fptosi 32 (((n : ℤ) : ℝ) : EReal) = BitVec.ofInt 32 n := by
  rw [Ideal.fptosi, Ideal.toIntClamped_coe]
  congr 1
  rw [Int.floor_intCast, Int.ceil_intCast, ite_self]
  norm_num
  omega

/-- The matrix product of int8-sized integers, converted back, is the integer dot product. -/
theorem fptosi_dot {K : ℕ} (hK : K ≤ 16384) (a b : Fin K → ℤ) (ha : ∀ k, |a k| ≤ 128) (hb : ∀ k, |b k| ≤ 128) :
    Ideal.fptosi 32 (∑ k, (((a k : ℤ) : ℝ) : EReal) * (((b k : ℤ) : ℝ) : EReal)) = dotI a b := by
  rw [coe_dot]
  have hs : |∑ k, a k * b k| ≤ ∑ k : Fin K, (16384 : ℤ) :=
    (Finset.abs_sum_le_sum_abs _ _).trans (Finset.sum_le_sum fun k _ => by
      rw [abs_mul]
      calc |a k| * |b k| ≤ 128 * 128 := mul_le_mul (ha k) (hb k) (abs_nonneg _) (by norm_num)
        _ = 16384 := by norm_num)
  rw [Finset.sum_const, Finset.card_univ, Fintype.card_fin, nsmul_eq_mul] at hs
  have hs' := abs_le.mp hs
  have : (K : ℤ) ≤ 16384 := by exact_mod_cast hK
  exact fptosi_int _ (by nlinarith [hs'.1]) (by nlinarith [hs'.2])

/-- A dot product is the sum of the dot products of its two parts. -/
theorem dotI_split (A B : ℕ) (a b : Fin (A + B) → ℤ) :
    dotI a b = IntOp.addi (dotI (fun k : Fin A => a (Fin.castAdd B k)) (fun k => b (Fin.castAdd B k)))
      (dotI (fun k : Fin B => a (Fin.natAdd A k)) (fun k => b (Fin.natAdd A k))) := by
  rw [dotI, Fin.sum_univ_add, BitVec.ofInt_add]; rfl

theorem abs_toInt8 (b : BitVec 8) : |b.toInt| ≤ 128 := by
  have h1 := b.le_toInt
  have h2 := b.toInt_lt
  rw [abs_le]; constructor <;> norm_num at * <;> omega

theorem abs_clamp8 (v : BitVec 32) : |(clamp8 v).toInt| ≤ 128 := by
  have h := clamp8_range v
  rw [abs_le]; omega

/-- A dot product over `M * N` positions is the sum over the `M` chunks of `N`. -/
theorem sum_chunks (M N : ℕ) (f : ℕ → ℤ) :
    (∑ k : Fin (M * N), f k.val) = ∑ i : Fin M, ∑ k : Fin N, f (N * i.val + k.val) := by
  rw [Fin.sum_univ_eq_sum_range (fun k => f k) (M * N)]
  rw [Fin.sum_univ_eq_sum_range (fun i => ∑ k : Fin N, f (N * i + k.val)) M]
  induction M with
  | zero => simp
  | succ M ih =>
    rw [Finset.sum_range_succ, ← ih, Nat.succ_mul, Finset.sum_range_add, Fin.sum_univ_eq_sum_range (fun k => f (N * M + k)) N,
      Nat.mul_comm M N]

/-- An element of the activation before it is narrowed: from the accumulator, the three words of its column (with the
    row's exponent already taken off the shift), and the second rescaling. -/
def gWord (acc m1 k1e b1 m2 p2 mask2 q2 : BitVec 32) : BitVec 32 :=
  clamp8 (dy (gelu (clampH (IntOp.addi (dyadic acc m1 k1e) b1))) m2 p2 mask2 q2)

/-- The activation's word before it is narrowed to eight bits, from one row of the input and one column of the first
    weight. -/
def gCode (xr wc : Fin 2048 → ℤ) (m1 k1 e b1 m2 k2 : BitVec 32) : BitVec 32 :=
  gWord (dotI xr wc) m1 (IntOp.subi k1 e) b1 m2 (pOf k2) (maskOf (pOf k2)) (qOf k2)

/-- One word of the second result, from one row of the activation, one column of the second weight and one element of the
    input, `d` the number of places by which that element is shifted. -/
def zWord (gr wc : Fin 16384 → ℤ) (m3 k3 : BitVec 32) (x : BitVec 8) (d b2 : BitVec 32) : BitVec 32 :=
  IntOp.addi (IntOp.addi (dyadic (dotI gr wc) m3 k3) (IntOp.shli .vector (x.signExtend 32) d)) b2

end Cert.Ffn

end
-- ==== Proof.KernelIdealWords.lean ====
/- The blocks one grid point leaves, element by element, over the extended reals. -/
module

public import proofs.«01_k».proof.Proof.KernelIdealStep
public import proofs.«01_k».proof.Proof.Words
public import Idealize.ShloMosaic.Lib.MatmulPlain
public import Idealize.ShloMosaic.Lib.Pointwise.Tactic

@[expose] public section

set_option maxRecDepth 16384

noncomputable section

namespace Cert.KernelIdeal.Hand

open Cert.KernelIdeal Cert.KernelIdeal.Gen
open Idealize.ShloMosaic
open Cert.Ffn

/-- The two spellings of a rank-2 index. -/
theorem ix2_eq {n0 n1 : ℕ} (a : Fin n0) (b : Fin n1) : ValueIdx.ix2 a b = ix2 a b := by
  funext i
  match i with
  | ⟨0, _⟩ => rfl
  | ⟨1, _⟩ => rfl

/-- One element of the first product's matrix product, over half of the contracted positions. -/
theorem mm1 (a : Vec Ideal S256x1024 .bf16) (b : Vec Ideal S1024x256 .bf16) (r c : Fin 256) :
    matmul (F := Ideal) (φ₁ := .bf16) (φ₂ := .bf16) dot_S256x1024_S1024x256_S256x256_1_0_0_1_n_n none a b (constant S256x256 .f32 0x00000000#32) (ix2 r c)
      = ∑ l : Fin 1024, a (ix2 r l) * b (ix2 l c) := by
  refine (Ideal.matmul_plain_apply none a b (constant S256x256 .f32 0x00000000#32) r c).trans ?_
  simp only [ix2_eq]
  rw [show (constant (F := Ideal) S256x256 .f32 0x00000000#32) (ix2 r c) = 0 from Ideal.ofBits_zero_f32, zero_add]

/-- One element of the second product's matrix product, over one block of contracted positions. -/
theorem mm2 (a : Vec Ideal S256x1024 .bf16) (b : Vec Ideal S1024x2048 .bf16) (r : Fin 256) (c : Fin 2048) :
    matmul (F := Ideal) (φ₁ := .bf16) (φ₂ := .bf16) dot_S256x1024_S1024x2048_S256x2048_1_0_0_1_n_n none a b (constant S256x2048 .f32 0x00000000#32) (ix2 r c)
      = ∑ l : Fin 1024, a (ix2 r l) * b (ix2 l c) := by
  refine (Ideal.matmul_plain_apply none a b (constant S256x2048 .f32 0x00000000#32) r c).trans ?_
  simp only [ix2_eq]
  rw [show (constant (F := Ideal) S256x2048 .f32 0x00000000#32) (ix2 r c) = 0 from Ideal.ofBits_zero_f32, zero_add]

/-- One element of a tile of the activation. -/
theorem tileOf_apply (v13 v14 v15 v16 : Elt Ideal .i32) (e : Vec Ideal S256x128 .i32) (a0 : Vec Ideal S256x1024 .bf16)
    (b0 : Vec Ideal S1024x256 .bf16) (a1 : Vec Ideal S256x1024 .bf16) (b1 : Vec Ideal S1024x256 .bf16) (m k b : Vec Ideal S1x256 .i32)
    (r c : Fin 256) (E : BitVec 32) (hE : ∀ l : Fin 128, e (ix2 r l) = E) :
    tileOf (F := Ideal) v13 v14 v15 v16 e a0 b0 a1 b1 m k b (ix2 r c)
      = gWord (IntOp.addi (IntOp.addi 0#32 (Ideal.fptosi 32 (∑ l : Fin 1024, a0 (ix2 r l) * b0 (ix2 l c))))
          (Ideal.fptosi 32 (∑ l : Fin 1024, a1 (ix2 r l) * b1 (ix2 l c))))
          (m (ix2 0 c)) (IntOp.subi (k (ix2 0 c)) E) (b (ix2 0 c)) v13 v14 v15 v16 := by
  have hcat : k0_pay8 (F := Ideal) e (ix2 r c) = E := by
    unfold k0_pay8
    simp only [shapeCast_self]
    by_cases hc : c.val < 128
    · refine (concatenate_apply_piece 1 _ _ (ix2 r c) 0 (by simp) S256x128 e rfl rfl 0 rfl (ix2 r ⟨c.val, hc⟩) ?_ ?_).trans (hE _)
      · intro b hb
        match b with
        | ⟨0, _⟩ => rfl
        | ⟨1, _⟩ => exact absurd rfl hb
      · exact Nat.zero_add _
    · refine (concatenate_apply_piece 1 _ _ (ix2 r c) 1 (by simp) S256x128 e rfl rfl 128 rfl
        (ix2 r ⟨c.val - 128, by have := c.isLt; omega⟩) ?_ ?_).trans (hE _)
      · intro b hb
        match b with
        | ⟨0, _⟩ => rfl
        | ⟨1, _⟩ => exact absurd rfl hb
      · show 128 + (c.val - 128) = c.val
        omega
  have h39 : k0_pay39 (F := Ideal) (k0_pay8 e) k0_pay38 a0 b0 a1 b1 m k b (ix2 r c)
      = IntOp.addi (dyadic (IntOp.addi (IntOp.addi 0#32 (Ideal.fptosi 32 (∑ l : Fin 1024, a0 (ix2 r l) * b0 (ix2 l c))))
          (Ideal.fptosi 32 (∑ l : Fin 1024, a1 (ix2 r l) * b1 (ix2 l c))))
          (m (ix2 0 c)) (IntOp.subi (k (ix2 0 c)) E)) (b (ix2 0 c)) := by
    rw [← hcat, ← mm1, ← mm1]
    unfold k0_pay39 k0_pay38
    generalize k0_pay8 (F := Ideal) e = E'
    simp only [shapeCast_self]
    generalize (matmul (F := Ideal) (φ₁ := .bf16) (φ₂ := .bf16) dot_S256x1024_S1024x256_S256x256_1_0_0_1_n_n none a0 b0 (constant S256x256 .f32 0x00000000#32)) = A
    generalize (matmul (F := Ideal) (φ₁ := .bf16) (φ₂ := .bf16) dot_S256x1024_S1024x256_S256x256_1_0_0_1_n_n none a1 b1 (constant S256x256 .f32 0x00000000#32)) = B
    pointwise
    rfl
  rw [gWord, ← geluSel_eq, ← h39, tileOf]
  generalize k0_pay39 (F := Ideal) (k0_pay8 e) k0_pay38 a0 b0 a1 b1 m k b = v
  rfl

/-- One element of a band of 256 rows after the second product is added. -/
theorem pay6_apply (old : Vec Ideal S256x2048 .i32) (a : Vec Ideal S256x1024 .bf16) (w : Vec Ideal S1024x2048 .bf16)
    (r : Fin 256) (c : Fin 2048) :
    k0_pay6 (F := Ideal) old a w (ix2 r c)
      = IntOp.addi (old (ix2 r c)) (Ideal.fptosi 32 (∑ l : Fin 1024, a (ix2 r l) * w (ix2 l c))) := by
  rw [← mm2]
  unfold k0_pay6
  simp only [shapeCast_self]
  rfl

/-- One element of 32 rows of the second result. -/
theorem finishRows_apply (w0 w1 w2 w3 : Vec Ideal S1x2048 .i32) (e : Vec Ideal S32x1 .i32) (x : Vec Ideal S32x2048 .i8)
    (old : Vec Ideal S32x2048 .i32) (r : Fin 32) (c : Fin 2048) :
    finishRows (F := Ideal) w0 w1 w2 w3 e x old (ix2 r c)
      = IntOp.addi (IntOp.addi (dy (old (ix2 r c)) (w0 (ix2 0 c)) (w1 (ix2 0 c)) (maskOf (w1 (ix2 0 c))) (w2 (ix2 0 c)))
          (IntOp.muli ((x (ix2 r c)).signExtend 32) (e (ix2 r 0)))) (w3 (ix2 0 c)) := by
  unfold finishRows k0_pay54 k0_pay50 k0_pay42 k0_pay43 k0_pay44 k0_pay45 k0_pay52 k0_pay53
  simp only [shapeCast_self]
  pointwise
  rfl

/-- A window of a rank-2 array, at an index. -/
theorem window2 {α : Type} {R C r0 c0 : ℕ} (x : (⟨2, ![R, C]⟩ : Shape).Idx → α) (o0 o1 : ℕ)
    (inb : ∀ a, (![o0, o1] : Fin 2 → ℕ) a + (![r0, c0] : Fin 2 → ℕ) a ≤ (⟨2, ![R, C]⟩ : Shape).size a) (i : Fin r0) (j : Fin c0)
    (i' : Fin R) (j' : Fin C) (hi : o0 + i.val = i'.val) (hj : o1 + j.val = j'.val) :
    VecWindow.window x ![o0, o1] ![r0, c0] inb (ix2 i j) = x (ix2 i' j') := by
  show x _ = x _
  congr 1
  funext a
  refine Fin.ext ?_
  match a with
  | ⟨0, _⟩ => show o0 + 1 * i.val = i'.val; omega
  | ⟨1, _⟩ => show o1 + 1 * j.val = j'.val; omega

/-- The activation's word at row `r` and column `c` of a block, from the blocks of one grid point. -/
def blockWord (x0 : Vec Ideal S1024x2048 .i8) (E : Fin 1024 → BitVec 32) (x3 : Vec Ideal S2048x1024 .i8) (x4 : Vec Ideal S8x1024 .i32)
    (x7 : Vec Ideal S4 .i32) (r c : Fin 1024) : BitVec 32 :=
  gWord (dotI (fun l : Fin 2048 => (x0 (ix2 r l) : BitVec 8).toInt) (fun l => (x3 (ix2 l c) : BitVec 8).toInt)) (x4 (ix2 0 c))
    (IntOp.subi (x4 (ix2 1 c)) (E r)) (x4 (ix2 2 c)) (rq x7 0) (rq x7 1) (rq x7 2) (rq x7 3)

theorem pay1_apply (x0 : Vec Ideal S1024x2048 .i8) (i : S1024x2048.Idx) :
    k0_pay1 (F := Ideal) x0 i = (((x0 i : BitVec 8).toInt : ℝ) : EReal) := by
  unfold k0_pay1
  simp only [shapeCast_self]
  rfl

theorem pay3_apply (x3 : Vec Ideal S2048x1024 .i8) (i : S2048x1024.Idx) :
    k0_pay3 (F := Ideal) x3 i = (((x3 i : BitVec 8).toInt : ℝ) : EReal) := by
  unfold k0_pay3
  simp only [shapeCast_self]
  rfl

theorem pay4_apply (x5 : Vec Ideal S1024x2048 .i8) (i : S1024x2048.Idx) :
    k0_pay4 (F := Ideal) x5 i = (((x5 i : BitVec 8).toInt : ℝ) : EReal) := by
  unfold k0_pay4
  simp only [shapeCast_self]
  rfl

theorem pay5_apply (t : IVec S256x256 32) (i : S256x256.Idx) :
    k0_pay5 (F := Ideal) t i = (((t i : BitVec 32).toInt : ℝ) : EReal) := by
  unfold k0_pay5
  simp only [shapeCast_self]
  rfl

/-- One element of a tile, from the blocks of the grid point. -/
theorem tilesOf_apply (x0 : Vec Ideal S1024x2048 .i8) (x1 : Vec Ideal S1024x128 .i32) (E : Fin 1024 → BitVec 32)
    (hE : ∀ r l, x1 (ix2 r l) = E r) (x3 : Vec Ideal S2048x1024 .i8) (x4 : Vec Ideal S8x1024 .i32) (x7 : Vec Ideal S4 .i32)
    (k n : Fin 4) (r c : Fin 256) (R C : Fin 1024) (hR : 256 * k.val + r.val = R.val) (hC : 256 * n.val + c.val = C.val) :
    tilesOf (F := Ideal) x1 x3 x4 x7 (k0_pay1 x0) k n (ix2 r c) = blockWord x0 E x3 x4 x7 R C := by
  rw [tilesOf, tile]
  refine (tileOf_apply _ _ _ _ _ _ _ _ _ _ _ _ r c (E R) (fun l => ?_)).trans ?_
  · exact (window2 x1 (256 * k.val) 0 _ r l R l hR (Nat.zero_add _)).trans (hE _ _)
  rw [blockWord]
  have hm := window2 x4 0 (256 * n.val) (inbP 0 n) (0 : Fin 1) c 0 C rfl hC
  have hk := window2 x4 1 (256 * n.val) (inbP 1 n) (0 : Fin 1) c 1 C rfl hC
  have hb := window2 x4 2 (256 * n.val) (inbP 2 n) (0 : Fin 1) c 2 C rfl hC
  have h0 : Ideal.fptosi 32 (∑ l : Fin 1024, VecWindow.window (k0_pay1 (F := Ideal) x0) ![256 * k.val, 0] S256x1024.size (inbX0 k) (ix2 r l)
      * VecWindow.window (k0_pay3 (F := Ideal) x3) ![0, 256 * n.val] S1024x256.size (inbW0 n) (ix2 l c))
      = dotI (fun l : Fin 1024 => (x0 (ix2 R (Fin.castAdd 1024 l)) : BitVec 8).toInt) (fun l => (x3 (ix2 (Fin.castAdd 1024 l) C) : BitVec 8).toInt) := by
    refine Eq.trans (congrArg _ (Finset.sum_congr rfl fun l _ => ?_)) (fptosi_dot (by norm_num) _ _ (fun _ => abs_toInt8 _) (fun _ => abs_toInt8 _))
    refine congrArg₂ (· * ·) ?_ ?_
    · exact (window2 (k0_pay1 (F := Ideal) x0) (256 * k.val) 0 _ r l R (Fin.castAdd 1024 l) hR (Nat.zero_add _)).trans (pay1_apply _ _)
    · exact (window2 (k0_pay3 (F := Ideal) x3) 0 (256 * n.val) _ l c (Fin.castAdd 1024 l) C (Nat.zero_add _) hC).trans (pay3_apply _ _)
  have h1 : Ideal.fptosi 32 (∑ l : Fin 1024, VecWindow.window (k0_pay1 (F := Ideal) x0) ![256 * k.val, 1024] S256x1024.size (inbX1 k) (ix2 r l)
      * VecWindow.window (k0_pay3 (F := Ideal) x3) ![1024, 256 * n.val] S1024x256.size (inbW1 n) (ix2 l c))
      = dotI (fun l : Fin 1024 => (x0 (ix2 R (Fin.natAdd 1024 l)) : BitVec 8).toInt) (fun l => (x3 (ix2 (Fin.natAdd 1024 l) C) : BitVec 8).toInt) := by
    refine Eq.trans (congrArg _ (Finset.sum_congr rfl fun l _ => ?_)) (fptosi_dot (by norm_num) _ _ (fun _ => abs_toInt8 _) (fun _ => abs_toInt8 _))
    refine congrArg₂ (· * ·) ?_ ?_
    · exact (window2 (k0_pay1 (F := Ideal) x0) (256 * k.val) 1024 _ r l R (Fin.natAdd 1024 l) hR rfl).trans (pay1_apply _ _)
    · exact (window2 (k0_pay3 (F := Ideal) x3) 1024 (256 * n.val) _ l c (Fin.natAdd 1024 l) C rfl hC).trans (pay3_apply _ _)
  have hd : IntOp.addi (IntOp.addi 0#32
      (dotI (fun l : Fin 1024 => (x0 (ix2 R (Fin.castAdd 1024 l)) : BitVec 8).toInt) (fun l => (x3 (ix2 (Fin.castAdd 1024 l) C) : BitVec 8).toInt)))
      (dotI (fun l : Fin 1024 => (x0 (ix2 R (Fin.natAdd 1024 l)) : BitVec 8).toInt) (fun l => (x3 (ix2 (Fin.natAdd 1024 l) C) : BitVec 8).toInt))
      = dotI (fun l : Fin 2048 => (x0 (ix2 R l) : BitVec 8).toInt) (fun l => (x3 (ix2 l C) : BitVec 8).toInt) := by
    refine Eq.trans ?_ (dotI_split 1024 1024 _ _).symm
    exact congrArg (IntOp.addi · _) (BitVec.zero_add _)
  have key : ∀ (A B m k b A' B' m' k' b' : BitVec 32), A = A' → B = B' → m = m' → k = k' → b = b' →
      gWord (IntOp.addi (IntOp.addi 0#32 A) B) m (IntOp.subi k (E R)) b (rq x7 0) (rq x7 1) (rq x7 2) (rq x7 3)
      = gWord (IntOp.addi (IntOp.addi 0#32 A') B') m' (IntOp.subi k' (E R)) b' (rq x7 0) (rq x7 1) (rq x7 2) (rq x7 3) := by
    intro A B m k b A' B' m' k' b' hA hB hm hk hb
    rw [hA, hB, hm, hk, hb]
  refine (key _ _ _ _ _ _ _ _ _ _ h0 h1 hm hk hb).trans ?_
  rw [hd]

/-- One element of the block of codes a grid point stores. -/
theorem gStep_apply (x0 : Vec Ideal S1024x2048 .i8) (x1 : Vec Ideal S1024x128 .i32) (E : Fin 1024 → BitVec 32)
    (hE : ∀ r l, x1 (ix2 r l) = E r) (x3 : Vec Ideal S2048x1024 .i8) (x4 : Vec Ideal S8x1024 .i32) (x7 : Vec Ideal S4 .i32) (r c : Fin 1024) :
    gStep (F := Ideal) x1 x3 x4 x7 (k0_pay1 x0) (ix2 r c) = (blockWord x0 E x3 x4 x7 r c).setWidth 8 := by
  have h := tilesOf_apply x0 x1 E hE x3 x4 x7 ⟨r.val / 256, by omega⟩ ⟨c.val / 256, by omega⟩
    ⟨r.val % 256, Nat.mod_lt _ (by decide)⟩ ⟨c.val % 256, Nat.mod_lt _ (by decide)⟩ r c (Nat.div_add_mod _ _) (Nat.div_add_mod _ _)
  exact congrArg (BitVec.setWidth 8) h

/-- One element of the accumulated products after a grid point. -/
theorem zStep_apply (x0 : Vec Ideal S1024x2048 .i8) (x1 : Vec Ideal S1024x128 .i32) (E : Fin 1024 → BitVec 32)
    (hE : ∀ r l, x1 (ix2 r l) = E r) (x3 : Vec Ideal S2048x1024 .i8) (x4 : Vec Ideal S8x1024 .i32) (x5 : Vec Ideal S1024x2048 .i8)
    (x7 : Vec Ideal S4 .i32) (old : Vec Ideal S1024x2048 .i32) (r : Fin 1024) (c : Fin 2048) :
    zStep (F := Ideal) x1 x3 x4 x5 x7 (k0_pay1 x0) old (ix2 r c)
      = IntOp.addi (old (ix2 r c)) (dotI (fun l : Fin 1024 => (blockWord x0 E x3 x4 x7 r l).toInt) (fun l => (x5 (ix2 l c) : BitVec 8).toInt)) := by
  have hr : r.val / 256 < 4 := by omega
  rw [zStep]
  refine (pay6_apply _ _ _ ⟨r.val % 256, Nat.mod_lt _ (by decide)⟩ c).trans ?_
  refine congrArg₂ IntOp.addi ?_ ?_
  · exact window2 old (256 * (r.val / 256)) 0 _ _ c r c (Nat.div_add_mod _ _) (Nat.zero_add _)
  · refine Eq.trans (congrArg _ (Finset.sum_congr rfl fun l _ => congrArg₂ (· * ·) ?_ (pay4_apply _ _)))
      (fptosi_dot (by norm_num) _ _ (fun _ => abs_clamp8 _) (fun _ => abs_toInt8 _))
    refine (pay5_apply _ _).trans ?_
    exact congrArg (fun w : BitVec 32 => ((w.toInt : ℝ) : EReal)) (tilesOf_apply x0 x1 E hE x3 x4 x7 ⟨r.val / 256, hr⟩ ⟨l.val / 256, by omega⟩
      ⟨r.val % 256, Nat.mod_lt _ (by decide)⟩ ⟨l.val % 256, Nat.mod_lt _ (by decide)⟩ r l (Nat.div_add_mod _ _) (Nat.div_add_mod _ _))

/-- One element of the second result's block, from the accumulated products. -/
theorem zBlock_apply (p : Vec Ideal S8x2048 .i32) (sh : Vec Ideal S1024x128 .i32) (x : Vec Ideal S1024x2048 .i8) (old : Vec Ideal S1024x2048 .i32)
    (r : Fin 1024) (c : Fin 2048) :
    zBlock (F := Ideal) p sh x old (ix2 r c)
      = IntOp.addi (IntOp.addi (dy (old (ix2 r c)) (p (ix2 0 c)) (p (ix2 1 c)) (maskOf (p (ix2 1 c))) (p (ix2 2 c)))
          (IntOp.muli ((x (ix2 r c)).signExtend 32) (sh (ix2 r 0)))) (p (ix2 3 c)) := by
  have h0 := window2 p 0 0 (inbQ 0) (0 : Fin 1) c 0 c rfl (Nat.zero_add _)
  have h1 := window2 p 1 0 (inbQ 1) (0 : Fin 1) c 1 c rfl (Nat.zero_add _)
  have h2 := window2 p 2 0 (inbQ 2) (0 : Fin 1) c 2 c rfl (Nat.zero_add _)
  have h3 := window2 p 3 0 (inbQ 3) (0 : Fin 1) c 3 c rfl (Nat.zero_add _)
  have hr : r.val / 32 < 32 := by omega
  have hs := window2 sh (32 * (r.val / 32)) 0 (inbS ⟨r.val / 32, hr⟩) (⟨r.val % 32, Nat.mod_lt _ (by decide)⟩ : Fin 32) (0 : Fin 1) r 0
    (Nat.div_add_mod _ _) rfl
  have hx := window2 x (32 * (r.val / 32)) 0 (inbR ⟨r.val / 32, hr⟩) (⟨r.val % 32, Nat.mod_lt _ (by decide)⟩ : Fin 32) c r c
    (Nat.div_add_mod _ _) (Nat.zero_add _)
  have ho := window2 old (32 * (r.val / 32)) 0 (inbR ⟨r.val / 32, hr⟩) (⟨r.val % 32, Nat.mod_lt _ (by decide)⟩ : Fin 32) c r c
    (Nat.div_add_mod _ _) (Nat.zero_add _)
  refine (finishRows_apply _ _ _ _ _ _ _ ⟨r.val % 32, Nat.mod_lt _ (by decide)⟩ c).trans ?_
  have key : ∀ (o w0 w1 w2 w3 s : BitVec 32) (y : BitVec 8), o = old (ix2 r c) → w0 = p (ix2 0 c) → w1 = p (ix2 1 c) → w2 = p (ix2 2 c) →
      w3 = p (ix2 3 c) → s = sh (ix2 r 0) → y = x (ix2 r c) →
      IntOp.addi (IntOp.addi (dy o w0 w1 (maskOf w1) w2) (IntOp.muli (y.signExtend 32) s)) w3
      = IntOp.addi (IntOp.addi (dy (old (ix2 r c)) (p (ix2 0 c)) (p (ix2 1 c)) (maskOf (p (ix2 1 c))) (p (ix2 2 c)))
          (IntOp.muli ((x (ix2 r c)).signExtend 32) (sh (ix2 r 0)))) (p (ix2 3 c)) := by
    intro o w0 w1 w2 w3 s y e0 e1 e2 e3 e4 e5 e6
    rw [e0, e1, e2, e3, e4, e5, e6]
  exact key _ _ _ _ _ _ _ ho h0 h1 h2 h3 hs hx

end Cert.KernelIdeal.Hand

end
-- ==== Proof.KernelIdealHost.lean ====
/- What the host operations before the kernel leave in the arrays its windows read, element by element. -/
module

public import proofs.«01_k».proof.Proof.Gen.KernelIdeal.Frame
public import proofs.«01_k».proof.Proof.Words
public import Idealize.ShloMosaic.Lib.Pipeline.Value
public import Idealize.ShloMosaic.Lib.Pointwise.Tactic
public import Idealize.ShloMosaic.Lib.KernelVsHost
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Ffn

/-- The factor the host makes of a shift count: the power of two, and zero when the count is outside `[0, 32)`. -/
theorem factor_eq (d : BitVec 32) :
    Scalar.select (IntOp.andi (IntOp.cmpi .sge d 0#32) (IntOp.cmpi .slt d 32#32))
      (IntOp.shli .host 1#32 (IntOp.minsi 31#32 (IntOp.maxsi 0#32 d))) 0#32
      = if d.toNat < 32 then 1#32 <<< d else 0#32 := by
  have hc := BitVec.toInt_eq_toNat_cond d
  have hl := d.isLt
  by_cases h : d.toNat < 32
  · rw [if_pos (by omega)] at hc
    have e1 : IntOp.cmpi .sge d 0#32 = 1#1 := by
      simp only [IntOp.cmpi, BitVec.sle]
      rw [show decide ((0#32).toInt ≤ d.toInt) = true from decide_eq_true (by simp; omega)]
      rfl
    have e2 : IntOp.cmpi .slt d 32#32 = 1#1 := by
      simp only [IntOp.cmpi, BitVec.slt]
      rw [show decide (d.toInt < (32#32).toInt) = true from decide_eq_true (by rw [show (32#32).toInt = 32 by decide]; omega)]
      rfl
    have e3 : IntOp.maxsi 0#32 d = d := by
      simp only [IntOp.maxsi, BitVec.slt, decide_eq_true_eq]
      split
      · rename_i h'
        rw [show (0#32).toInt = 0 by decide] at h'
        omega
      · rfl
    have e4 : IntOp.minsi 31#32 d = d := by
      simp only [IntOp.minsi, BitVec.slt, decide_eq_true_eq]
      split
      · rename_i h'
        rw [show (31#32).toInt = 31 by decide] at h'
        omega
      · rfl
    rw [e1, e2, e3, e4, if_pos h, IntOp.shli, if_pos h]
    rfl
  · have e0 : IntOp.andi (IntOp.cmpi .sge d 0#32) (IntOp.cmpi .slt d 32#32) = 0#1 := by
      by_cases hs : 2 * d.toNat < 2 ^ 32
      · rw [if_pos hs] at hc
        have e2 : IntOp.cmpi .slt d 32#32 = 0#1 := by
          simp only [IntOp.cmpi, BitVec.slt]
          rw [show decide (d.toInt < (32#32).toInt) = false from decide_eq_false (by rw [show (32#32).toInt = 32 by decide]; omega)]
          rfl
        rw [e2]; exact BitVec.and_zero
      · rw [if_neg hs] at hc
        have e1 : IntOp.cmpi .sge d 0#32 = 0#1 := by
          simp only [IntOp.cmpi, BitVec.sle]
          rw [show decide ((0#32).toInt ≤ d.toInt) = false from decide_eq_false (by simp; omega)]
          rfl
        rw [e1]; exact BitVec.zero_and
    rw [e0, if_neg h]
    rfl

/-- Multiplying by the host's factor is shifting by its count. -/
theorem muli_factor (x d : BitVec 32) :
    IntOp.muli x (if d.toNat < 32 then 1#32 <<< d else 0#32) = IntOp.shli .vector x d := (shli_eq_mul x d).symm

/-- Row `j` of eight single rows put below one another is the `j`-th of them. -/
theorem cat8_apply {n : ℕ} (u : Fin 8 → Vec Ideal ⟨2, ![1, n]⟩ .i32) (h) (j : Fin 8) (f : Fin n) :
    concatenate (α := BitVec 32) ⟨2, ![8, n]⟩ 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 j f) = u j (ix2 0 f) := by
  have hi : ∀ b : Fin 2, b ≠ 0 → ((ix2 (n0 := 1) (n1 := n) 0 f) b : ℕ) = (ix2 j f) b := by
    intro b hb
    match b with
    | ⟨0, _⟩ => exact absurd rfl hb
    | ⟨1, _⟩ => rfl
  match j with
  | 0 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 0 f) 0 (by simp) ⟨2, ![1, n]⟩ (u 0) rfl rfl 0 rfl (ix2 0 f) hi rfl
  | 1 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 1 f) 1 (by simp) ⟨2, ![1, n]⟩ (u 1) rfl rfl 1 rfl (ix2 0 f) hi rfl
  | 2 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 2 f) 2 (by simp) ⟨2, ![1, n]⟩ (u 2) rfl rfl 2 rfl (ix2 0 f) hi rfl
  | 3 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 3 f) 3 (by simp) ⟨2, ![1, n]⟩ (u 3) rfl rfl 3 rfl (ix2 0 f) hi rfl
  | 4 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 4 f) 4 (by simp) ⟨2, ![1, n]⟩ (u 4) rfl rfl 4 rfl (ix2 0 f) hi rfl
  | 5 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 5 f) 5 (by simp) ⟨2, ![1, n]⟩ (u 5) rfl rfl 5 rfl (ix2 0 f) hi rfl
  | 6 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 6 f) 6 (by simp) ⟨2, ![1, n]⟩ (u 6) rfl rfl 6 rfl (ix2 0 f) hi rfl
  | 7 => exact concatenate_apply_piece (t := ⟨2, ![8, n]⟩) 0 [⟨⟨2, ![1, n]⟩, u 0⟩, ⟨⟨2, ![1, n]⟩, u 1⟩, ⟨⟨2, ![1, n]⟩, u 2⟩, ⟨⟨2, ![1, n]⟩, u 3⟩,
      ⟨⟨2, ![1, n]⟩, u 4⟩, ⟨⟨2, ![1, n]⟩, u 5⟩, ⟨⟨2, ![1, n]⟩, u 6⟩, ⟨⟨2, ![1, n]⟩, u 7⟩] h (ix2 7 f) 7 (by simp) ⟨2, ![1, n]⟩ (u 7) rfl rfl 7 rfl (ix2 0 f) hi rfl

/-- Word `j` of four single words put after one another is the `j`-th of them. -/
theorem cat4_apply (u : Fin 4 → Vec Ideal S1 .i32) (h) (j : Fin 4) :
    concatenate (α := BitVec 32) S4 0 [⟨S1, u 0⟩, ⟨S1, u 1⟩, ⟨S1, u 2⟩, ⟨S1, u 3⟩] h (ix1 j) = u j (ix1 0) := by
  have hi : ∀ b : Fin 1, b ≠ 0 → ((ix1 (n0 := 1) 0) b : ℕ) = (ix1 j) b := by
    intro b hb
    match b with
    | ⟨0, _⟩ => exact absurd rfl hb
  match j with
  | 0 => exact concatenate_apply_piece (t := S4) 0 [⟨S1, u 0⟩, ⟨S1, u 1⟩, ⟨S1, u 2⟩, ⟨S1, u 3⟩] h (ix1 0) 0 (by simp) S1 (u 0) rfl rfl 0 rfl (ix1 0) hi rfl
  | 1 => exact concatenate_apply_piece (t := S4) 0 [⟨S1, u 0⟩, ⟨S1, u 1⟩, ⟨S1, u 2⟩, ⟨S1, u 3⟩] h (ix1 1) 1 (by simp) S1 (u 1) rfl rfl 1 rfl (ix1 0) hi rfl
  | 2 => exact concatenate_apply_piece (t := S4) 0 [⟨S1, u 0⟩, ⟨S1, u 1⟩, ⟨S1, u 2⟩, ⟨S1, u 3⟩] h (ix1 2) 2 (by simp) S1 (u 2) rfl rfl 2 rfl (ix1 0) hi rfl
  | 3 => exact concatenate_apply_piece (t := S4) 0 [⟨S1, u 0⟩, ⟨S1, u 1⟩, ⟨S1, u 2⟩, ⟨S1, u 3⟩] h (ix1 3) 3 (by simp) S1 (u 3) rfl rfl 3 rfl (ix1 0) hi rfl

/-- The rows the first product's parameter block is put together of. -/
theorem at_fp (σ : (b : DevRef τ sig) → b.ty.Contents (Elt Ideal)) (j : Fin 8) (f : Fin 16384) :
    (StableHlo.after (hostOps0_4 (F := Ideal)) σ (Proc.devRef .tc main_v24) : Vec Ideal S8x16384 .i32) (ix2 j f)
    = (![(StableHlo.upto (hostOps0_4 (F := Ideal)) σ 11 (Proc.devRef .tc main_v16) : Vec Ideal S1x16384 .i32),
      (StableHlo.upto (hostOps0_4 (F := Ideal)) σ 11 (Proc.devRef .tc main_v17) : Vec Ideal S1x16384 .i32),
      (StableHlo.upto (hostOps0_4 (F := Ideal)) σ 11 (Proc.devRef .tc main_v18) : Vec Ideal S1x16384 .i32),
      (StableHlo.upto (hostOps0_4 (F := Ideal)) σ 11 (Proc.devRef .tc main_v19) : Vec Ideal S1x16384 .i32),
      (StableHlo.upto (hostOps0_4 (F := Ideal)) σ 11 (Proc.devRef .tc main_v20) : Vec Ideal S1x16384 .i32),
      (StableHlo.upto (hostOps0_4 (F := Ideal)) σ 11 (Proc.devRef .tc main_v21) : Vec Ideal S1x16384 .i32),
      (StableHlo.upto (hostOps0_4 (F := Ideal)) σ 11 (Proc.devRef .tc main_v22) : Vec Ideal S1x16384 .i32),
      (StableHlo.upto (hostOps0_4 (F := Ideal)) σ 11 (Proc.devRef .tc main_v23) : Vec Ideal S1x16384 .i32)] : Fin 8 → Vec Ideal S1x16384 .i32) j (ix2 0 f) := by
  obtain ⟨R, hR⟩ : ∃ R : BitVec 32, R = (![(StableHlo.upto (hostOps0_4 (F := Ideal)) σ 11 (Proc.devRef .tc main_v16) : Vec Ideal S1x16384 .i32),
      (StableHlo.upto (hostOps0_4 (F := Ideal)) σ 11 (Proc.devRef .tc main_v17) : Vec Ideal S1x16384 .i32),
      (StableHlo.upto (hostOps0_4 (F := Ideal)) σ 11 (Proc.devRef .tc main_v18) : Vec Ideal S1x16384 .i32),
      (StableHlo.upto (hostOps0_4 (F := Ideal)) σ 11 (Proc.devRef .tc main_v19) : Vec Ideal S1x16384 .i32),
      (StableHlo.upto (hostOps0_4 (F := Ideal)) σ 11 (Proc.devRef .tc main_v20) : Vec Ideal S1x16384 .i32),
      (StableHlo.upto (hostOps0_4 (F := Ideal)) σ 11 (Proc.devRef .tc main_v21) : Vec Ideal S1x16384 .i32),
      (StableHlo.upto (hostOps0_4 (F := Ideal)) σ 11 (Proc.devRef .tc main_v22) : Vec Ideal S1x16384 .i32),
      (StableHlo.upto (hostOps0_4 (F := Ideal)) σ 11 (Proc.devRef .tc main_v23) : Vec Ideal S1x16384 .i32)] : Fin 8 → Vec Ideal S1x16384 .i32) j (ix2 0 f) := ⟨_, rfl⟩
  rw [← hR]
  after_reads_simp
  rw [hR]
  exact cat8_apply (![(StableHlo.upto (hostOps0_4 (F := Ideal)) σ 11 (Proc.devRef .tc main_v16) : Vec Ideal S1x16384 .i32),
      (StableHlo.upto (hostOps0_4 (F := Ideal)) σ 11 (Proc.devRef .tc main_v17) : Vec Ideal S1x16384 .i32),
      (StableHlo.upto (hostOps0_4 (F := Ideal)) σ 11 (Proc.devRef .tc main_v18) : Vec Ideal S1x16384 .i32),
      (StableHlo.upto (hostOps0_4 (F := Ideal)) σ 11 (Proc.devRef .tc main_v19) : Vec Ideal S1x16384 .i32),
      (StableHlo.upto (hostOps0_4 (F := Ideal)) σ 11 (Proc.devRef .tc main_v20) : Vec Ideal S1x16384 .i32),
      (StableHlo.upto (hostOps0_4 (F := Ideal)) σ 11 (Proc.devRef .tc main_v21) : Vec Ideal S1x16384 .i32),
      (StableHlo.upto (hostOps0_4 (F := Ideal)) σ 11 (Proc.devRef .tc main_v22) : Vec Ideal S1x16384 .i32),
      (StableHlo.upto (hostOps0_4 (F := Ideal)) σ 11 (Proc.devRef .tc main_v23) : Vec Ideal S1x16384 .i32)] : Fin 8 → Vec Ideal S1x16384 .i32) _ j f

set_option maxHeartbeats 2000000 in
/-- The rows the second product's parameter block is put together of. -/
theorem at_dp (σ : (b : DevRef τ sig) → b.ty.Contents (Elt Ideal)) (j : Fin 8) (f : Fin 2048) :
    (StableHlo.after (hostOps0_4 (F := Ideal)) σ (Proc.devRef .tc main_v53) : Vec Ideal S8x2048 .i32) (ix2 j f)
    = (![(StableHlo.upto (hostOps0_4 (F := Ideal)) σ 48 (Proc.devRef .tc main_v45) : Vec Ideal S1x2048 .i32),
      (StableHlo.upto (hostOps0_4 (F := Ideal)) σ 48 (Proc.devRef .tc main_v46) : Vec Ideal S1x2048 .i32),
      (StableHlo.upto (hostOps0_4 (F := Ideal)) σ 48 (Proc.devRef .tc main_v47) : Vec Ideal S1x2048 .i32),
      (StableHlo.upto (hostOps0_4 (F := Ideal)) σ 48 (Proc.devRef .tc main_v48) : Vec Ideal S1x2048 .i32),
      (StableHlo.upto (hostOps0_4 (F := Ideal)) σ 48 (Proc.devRef .tc main_v49) : Vec Ideal S1x2048 .i32),
      (StableHlo.upto (hostOps0_4 (F := Ideal)) σ 48 (Proc.devRef .tc main_v50) : Vec Ideal S1x2048 .i32),
      (StableHlo.upto (hostOps0_4 (F := Ideal)) σ 48 (Proc.devRef .tc main_v51) : Vec Ideal S1x2048 .i32),
      (StableHlo.upto (hostOps0_4 (F := Ideal)) σ 48 (Proc.devRef .tc main_v52) : Vec Ideal S1x2048 .i32)] : Fin 8 → Vec Ideal S1x2048 .i32) j (ix2 0 f) := by
  obtain ⟨R, hR⟩ : ∃ R : BitVec 32, R = (![(StableHlo.upto (hostOps0_4 (F := Ideal)) σ 48 (Proc.devRef .tc main_v45) : Vec Ideal S1x2048 .i32),
      (StableHlo.upto (hostOps0_4 (F := Ideal)) σ 48 (Proc.devRef .tc main_v46) : Vec Ideal S1x2048 .i32),
      (StableHlo.upto (hostOps0_4 (F := Ideal)) σ 48 (Proc.devRef .tc main_v47) : Vec Ideal S1x2048 .i32),
      (StableHlo.upto (hostOps0_4 (F := Ideal)) σ 48 (Proc.devRef .tc main_v48) : Vec Ideal S1x2048 .i32),
      (StableHlo.upto (hostOps0_4 (F := Ideal)) σ 48 (Proc.devRef .tc main_v49) : Vec Ideal S1x2048 .i32),
      (StableHlo.upto (hostOps0_4 (F := Ideal)) σ 48 (Proc.devRef .tc main_v50) : Vec Ideal S1x2048 .i32),
      (StableHlo.upto (hostOps0_4 (F := Ideal)) σ 48 (Proc.devRef .tc main_v51) : Vec Ideal S1x2048 .i32),
      (StableHlo.upto (hostOps0_4 (F := Ideal)) σ 48 (Proc.devRef .tc main_v52) : Vec Ideal S1x2048 .i32)] : Fin 8 → Vec Ideal S1x2048 .i32) j (ix2 0 f) := ⟨_, rfl⟩
  rw [← hR]
  after_reads_simp
  rw [hR]
  exact cat8_apply (![(StableHlo.upto (hostOps0_4 (F := Ideal)) σ 48 (Proc.devRef .tc main_v45) : Vec Ideal S1x2048 .i32),
      (StableHlo.upto (hostOps0_4 (F := Ideal)) σ 48 (Proc.devRef .tc main_v46) : Vec Ideal S1x2048 .i32),
      (StableHlo.upto (hostOps0_4 (F := Ideal)) σ 48 (Proc.devRef .tc main_v47) : Vec Ideal S1x2048 .i32),
      (StableHlo.upto (hostOps0_4 (F := Ideal)) σ 48 (Proc.devRef .tc main_v48) : Vec Ideal S1x2048 .i32),
      (StableHlo.upto (hostOps0_4 (F := Ideal)) σ 48 (Proc.devRef .tc main_v49) : Vec Ideal S1x2048 .i32),
      (StableHlo.upto (hostOps0_4 (F := Ideal)) σ 48 (Proc.devRef .tc main_v50) : Vec Ideal S1x2048 .i32),
      (StableHlo.upto (hostOps0_4 (F := Ideal)) σ 48 (Proc.devRef .tc main_v51) : Vec Ideal S1x2048 .i32),
      (StableHlo.upto (hostOps0_4 (F := Ideal)) σ 48 (Proc.devRef .tc main_v52) : Vec Ideal S1x2048 .i32)] : Fin 8 → Vec Ideal S1x2048 .i32) _ j f

/-- The words the gelu's parameters are put together of. -/
theorem at_sp (σ : (b : DevRef τ sig) → b.ty.Contents (Elt Ideal)) (j : Fin 4) :
    (StableHlo.after (hostOps0_4 (F := Ideal)) σ (Proc.devRef .tc main_v34) : Vec Ideal S4 .i32) (ix1 j)
    = (![(StableHlo.upto (hostOps0_4 (F := Ideal)) σ 25 (Proc.devRef .tc main_v30) : Vec Ideal S1 .i32),
      (StableHlo.upto (hostOps0_4 (F := Ideal)) σ 25 (Proc.devRef .tc main_v31) : Vec Ideal S1 .i32),
      (StableHlo.upto (hostOps0_4 (F := Ideal)) σ 25 (Proc.devRef .tc main_v32) : Vec Ideal S1 .i32),
      (StableHlo.upto (hostOps0_4 (F := Ideal)) σ 25 (Proc.devRef .tc main_v33) : Vec Ideal S1 .i32)] : Fin 4 → Vec Ideal S1 .i32) j (ix1 0) := by
  obtain ⟨R, hR⟩ : ∃ R : BitVec 32, R = (![(StableHlo.upto (hostOps0_4 (F := Ideal)) σ 25 (Proc.devRef .tc main_v30) : Vec Ideal S1 .i32),
      (StableHlo.upto (hostOps0_4 (F := Ideal)) σ 25 (Proc.devRef .tc main_v31) : Vec Ideal S1 .i32),
      (StableHlo.upto (hostOps0_4 (F := Ideal)) σ 25 (Proc.devRef .tc main_v32) : Vec Ideal S1 .i32),
      (StableHlo.upto (hostOps0_4 (F := Ideal)) σ 25 (Proc.devRef .tc main_v33) : Vec Ideal S1 .i32)] : Fin 4 → Vec Ideal S1 .i32) j (ix1 0) := ⟨_, rfl⟩
  rw [← hR]
  after_reads_simp
  rw [hR]
  exact cat4_apply (![(StableHlo.upto (hostOps0_4 (F := Ideal)) σ 25 (Proc.devRef .tc main_v30) : Vec Ideal S1 .i32),
      (StableHlo.upto (hostOps0_4 (F := Ideal)) σ 25 (Proc.devRef .tc main_v31) : Vec Ideal S1 .i32),
      (StableHlo.upto (hostOps0_4 (F := Ideal)) σ 25 (Proc.devRef .tc main_v32) : Vec Ideal S1 .i32),
      (StableHlo.upto (hostOps0_4 (F := Ideal)) σ 25 (Proc.devRef .tc main_v33) : Vec Ideal S1 .i32)] : Fin 4 → Vec Ideal S1 .i32) _ j

variable (m : (ℓ : Loc nD τ sig) → Buf (Elt Ideal) ℓ)

/-- The codes of the input as a matrix of 10240 rows. -/
def argX (c : Dev nD) : Vec Ideal S10240x2048 .i8 :=
  shapeCast S10240x2048 (m ((c : Thread nD τ).loc main_arg0) : Vec Ideal S8x1280x2048 .i8) shapeCasts_S8x1280x2048_S10240x2048

/-- The exponents of the input's rows as one column. -/
def argE (c : Dev nD) : Vec Ideal S10240x1 .i32 :=
  shapeCast S10240x1 (m ((c : Thread nD τ).loc main_arg1) : Vec Ideal S8x1280 .i32) shapeCasts_S8x1280_S10240x1

/-- The host's last list of operations, read after the lists before it. -/
theorem V_split (c : Dev nD) (b : Ref sig .tc) :
    V m c b = StableHlo.after (hostOps0_4 (F := Ideal))
      (StableHlo.after (hostOps0_3 (F := Ideal)) (StableHlo.after (hostOps0_2 (F := Ideal)) (StableHlo.after (hostOps0_1 (F := Ideal))
        (StableHlo.after (hostOps0 (F := Ideal)) (fun b => m (c, b)))))) (Proc.devRef .tc b) := by
  show StableHlo.after (List.flatten [hostOps0, hostOps0_1, hostOps0_2, hostOps0_3, hostOps0_4]) (fun b => m (c, b)) (Proc.devRef .tc b) = _
  simp only [List.flatten_cons, List.flatten_nil, List.append_nil, StableHlo.after_append]

/-- The input's codes, as the kernel reads them. -/
theorem V_x (c : Dev nD) : (V m c main_v0 : Vec Ideal S10240x2048 .i8) = argX m c := by
  rw [V_split]
  after_reads_simp
  rfl

/-- The exponents, repeated along 128 lanes. -/
theorem V_e (c : Dev nD) (r : Fin 10240) (l : Fin 128) : (V m c main_v2 : Vec Ideal S10240x128 .i32) (ix2 r l) = argE m c (ix2 r 0) := by
  have h : (V m c main_v2 : Vec Ideal S10240x128 .i32) = broadcastInDim S10240x128 ![0, 1] bcast_S10240x1_S10240x128_0_1 (argE m c) := by
    rw [V_split]
    after_reads_simp
    rfl
  rw [h]
  pointwise

/-- The factors of the residual, repeated along 128 lanes. -/
theorem V_sh (c : Dev nD) (r : Fin 10240) (l : Fin 128) : (V m c main_v14 : Vec Ideal S10240x128 .i32) (ix2 r l)
    = if (IntOp.subi (argE m c (ix2 r 0)) ((m ((c : Thread nD τ).loc main_arg12) : Vec Ideal S_ .i32) ix0)).toNat < 32
      then 1#32 <<< (IntOp.subi (argE m c (ix2 r 0)) ((m ((c : Thread nD τ).loc main_arg12) : Vec Ideal S_ .i32) ix0)) else 0#32 := by
  have h : (V m c main_v14 : Vec Ideal S10240x128 .i32) = broadcastInDim S10240x128 ![0, 1] bcast_S10240x1_S10240x128_0_1
      (select (andi (cmpi .sge (subi (argE m c) (broadcastInDim S10240x1 ![] bcast_S_S10240x1 (m ((c : Thread nD τ).loc main_arg12) : Vec Ideal S_ .i32)))
            (broadcastInDim S10240x1 ![] bcast_S_S10240x1 (constantI S_ 32 0#32)))
          (cmpi .slt (subi (argE m c) (broadcastInDim S10240x1 ![] bcast_S_S10240x1 (m ((c : Thread nD τ).loc main_arg12) : Vec Ideal S_ .i32)))
            (broadcastInDim S10240x1 ![] bcast_S_S10240x1 (constantI S_ 32 32#32))))
        (Host.shli (broadcastInDim S10240x1 ![] bcast_S_S10240x1 (constantI S_ 32 1#32))
          (minsi (broadcastInDim S10240x1 ![] bcast_S_S10240x1 (constantI S_ 32 31#32))
            (maxsi (broadcastInDim S10240x1 ![] bcast_S_S10240x1 (constantI S_ 32 0#32))
              (subi (argE m c) (broadcastInDim S10240x1 ![] bcast_S_S10240x1 (m ((c : Thread nD τ).loc main_arg12) : Vec Ideal S_ .i32))))))
        (broadcastInDim S10240x1 ![] bcast_S_S10240x1 (constantI S_ 32 0#32))) := by
    rw [V_split]
    after_reads_simp
    rfl
  rw [h, ← factor_eq]
  generalize argE m c = e
  pointwise

/-- Row 0 of the first product's parameters. -/
theorem V_fp0 (c : Dev nD) (f : Fin 16384) : (V m c main_v24 : Vec Ideal S8x16384 .i32) (ix2 0 f)
    = (m ((c : Thread nD τ).loc main_arg3) : Vec Ideal S16384 .i32) (ix1 f) := by
  rw [V_split]
  refine (at_fp _ 0 f).trans ?_
  show (StableHlo.upto _ _ _ (Proc.devRef .tc main_v16) : Vec Ideal S1x16384 .i32) (ix2 0 f) = _
  after_reads_simp
  pointwise

/-- Row 1 of the first product's parameters. -/
theorem V_fp1 (c : Dev nD) (f : Fin 16384) : (V m c main_v24 : Vec Ideal S8x16384 .i32) (ix2 1 f)
    = (m ((c : Thread nD τ).loc main_arg4) : Vec Ideal S16384 .i32) (ix1 f) := by
  rw [V_split]
  refine (at_fp _ 1 f).trans ?_
  show (StableHlo.upto _ _ _ (Proc.devRef .tc main_v17) : Vec Ideal S1x16384 .i32) (ix2 0 f) = _
  after_reads_simp
  pointwise

/-- Row 2 of the first product's parameters. -/
theorem V_fp2 (c : Dev nD) (f : Fin 16384) : (V m c main_v24 : Vec Ideal S8x16384 .i32) (ix2 2 f)
    = (m ((c : Thread nD τ).loc main_arg5) : Vec Ideal S16384 .i32) (ix1 f) := by
  rw [V_split]
  refine (at_fp _ 2 f).trans ?_
  show (StableHlo.upto _ _ _ (Proc.devRef .tc main_v18) : Vec Ideal S1x16384 .i32) (ix2 0 f) = _
  after_reads_simp
  pointwise

/-- Row 0 of the second product's parameters. -/
theorem V_dp0 (c : Dev nD) (f : Fin 2048) : (V m c main_v53 : Vec Ideal S8x2048 .i32) (ix2 0 f)
    = (m ((c : Thread nD τ).loc main_arg9) : Vec Ideal S2048 .i32) (ix1 f) := by
  rw [V_split]
  refine (at_dp _ 0 f).trans ?_
  show (StableHlo.upto _ _ _ (Proc.devRef .tc main_v45) : Vec Ideal S1x2048 .i32) (ix2 0 f) = _
  after_reads_simp
  pointwise

/-- Row 1 of the second product's parameters. -/
theorem V_dp1 (c : Dev nD) (f : Fin 2048) : (V m c main_v53 : Vec Ideal S8x2048 .i32) (ix2 1 f)
    = pOf ((m ((c : Thread nD τ).loc main_arg10) : Vec Ideal S2048 .i32) (ix1 f)) := by
  rw [V_split]
  refine (at_dp _ 1 f).trans ?_
  show (StableHlo.upto _ _ _ (Proc.devRef .tc main_v46) : Vec Ideal S1x2048 .i32) (ix2 0 f) = _
  after_reads_simp
  pointwise
  rfl

/-- Row 2 of the second product's parameters. -/
theorem V_dp2 (c : Dev nD) (f : Fin 2048) : (V m c main_v53 : Vec Ideal S8x2048 .i32) (ix2 2 f)
    = qOf ((m ((c : Thread nD τ).loc main_arg10) : Vec Ideal S2048 .i32) (ix1 f)) := by
  rw [V_split]
  refine (at_dp _ 2 f).trans ?_
  show (StableHlo.upto _ _ _ (Proc.devRef .tc main_v47) : Vec Ideal S1x2048 .i32) (ix2 0 f) = _
  after_reads_simp
  pointwise
  rfl

/-- Row 3 of the second product's parameters. -/
theorem V_dp3 (c : Dev nD) (f : Fin 2048) : (V m c main_v53 : Vec Ideal S8x2048 .i32) (ix2 3 f)
    = (m ((c : Thread nD τ).loc main_arg11) : Vec Ideal S2048 .i32) (ix1 f) := by
  rw [V_split]
  refine (at_dp _ 3 f).trans ?_
  show (StableHlo.upto _ _ _ (Proc.devRef .tc main_v48) : Vec Ideal S1x2048 .i32) (ix2 0 f) = _
  after_reads_simp
  pointwise

/-- Word 0 of the gelu's parameters. -/
theorem V_sp0 (c : Dev nD) : (V m c main_v34 : Vec Ideal S4 .i32) (ix1 (n0 := 4) 0) = (m ((c : Thread nD τ).loc main_arg6) : Vec Ideal S_ .i32) ix0 := by
  rw [V_split]
  refine (at_sp _ 0).trans ?_
  show (StableHlo.upto _ _ _ (Proc.devRef .tc main_v30) : Vec Ideal S1 .i32) (ix1 0) = _
  after_reads_simp
  pointwise

/-- Word 1 of the gelu's parameters. -/
theorem V_sp1 (c : Dev nD) : (V m c main_v34 : Vec Ideal S4 .i32) (ix1 (n0 := 4) 1) = pOf ((m ((c : Thread nD τ).loc main_arg7) : Vec Ideal S_ .i32) ix0) := by
  rw [V_split]
  refine (at_sp _ 1).trans ?_
  show (StableHlo.upto _ _ _ (Proc.devRef .tc main_v31) : Vec Ideal S1 .i32) (ix1 0) = _
  after_reads_simp
  pointwise
  rfl

/-- Word 2 of the gelu's parameters. -/
theorem V_sp2 (c : Dev nD) : (V m c main_v34 : Vec Ideal S4 .i32) (ix1 (n0 := 4) 2) = maskOf (pOf ((m ((c : Thread nD τ).loc main_arg7) : Vec Ideal S_ .i32) ix0)) := by
  rw [V_split]
  refine (at_sp _ 2).trans ?_
  show (StableHlo.upto _ _ _ (Proc.devRef .tc main_v32) : Vec Ideal S1 .i32) (ix1 0) = _
  after_reads_simp
  pointwise
  rfl

/-- Word 3 of the gelu's parameters. -/
theorem V_sp3 (c : Dev nD) : (V m c main_v34 : Vec Ideal S4 .i32) (ix1 (n0 := 4) 3) = qOf ((m ((c : Thread nD τ).loc main_arg7) : Vec Ideal S_ .i32) ix0) := by
  rw [V_split]
  refine (at_sp _ 3).trans ?_
  show (StableHlo.upto _ _ _ (Proc.devRef .tc main_v33) : Vec Ideal S1 .i32) (ix1 0) = _
  after_reads_simp
  pointwise
  rfl

end Cert.KernelIdeal.Hand

end
-- ==== Proof.KernelIdealBlocks.lean ====
/- The blocks of one grid point, element by element, as parts of the arguments. -/
module

public import proofs.«01_k».proof.Proof.Gen.KernelIdeal.Frame
public import proofs.«01_k».proof.Proof.KernelIdealHost
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Ffn

variable (m : (ℓ : Loc nD τ sig) → Buf (Elt Ideal) ℓ)

/-- Where the windows' blocks sit at a grid point: its row block is `t / 16`, its block of the activation's columns `t % 16`. -/
theorem index_eq : ∀ t : Fin grid0.N, win0_0.index t 0 = t.val / 16 ∧ win0_0.index t 1 = 0 ∧ win0_1.index t 0 = t.val / 16 ∧ win0_1.index t 1 = 0
    ∧ win0_2.index t 0 = t.val / 16 ∧ win0_2.index t 1 = 0 ∧ win0_3.index t 0 = 0 ∧ win0_3.index t 1 = t.val % 16
    ∧ win0_4.index t 0 = 0 ∧ win0_4.index t 1 = t.val % 16 ∧ win0_5.index t 0 = t.val % 16 ∧ win0_5.index t 1 = 0
    ∧ win0_6.index t 0 = 0 ∧ win0_6.index t 1 = 0 ∧ win0_7.index t 0 = 0
    ∧ win0_9.index t 0 = t.val / 16 ∧ win0_9.index t 1 = t.val % 16 ∧ win0_10.index t 0 = t.val / 16 ∧ win0_10.index t 1 = 0 := by
  decide +kernel

/-- Window 0's block, element by element. -/
theorem blk0 (c : Dev nD) (t : Fin cfg0.N) (r : Fin 1024) (l : Fin 2048) (R : Fin 10240) (L : Fin 2048) (hR : R.val = 1024 * (t.val / 16) + r.val) (hL : L.val = l.val) :
    (iblk m c 0 t : Vec Ideal S1024x2048 .i8) (ix2 r l) = (V m c main_v0 : Vec Ideal S10240x2048 .i8) (ix2 R L) := by
  obtain ⟨x0, x1, e0, e1, s0, s1, w0, w1, f0, f1, u0, u1, d0, d1, p0, g0, g1, z0, z1⟩ := index_eq t
  unfold iblk
  show V m c main_v0 (((cfg0.win 0).blk t).view.emb (ix2 r l)) = V m c main_v0 (ix2 R L)
  refine congrArg (V m c main_v0) (funext fun a => Fin.ext ?_)
  blk_simp
  match a with
  | ⟨0, _⟩ => show win0_0.index t 0 * 1024 + r.val = R.val; rw [x0]; omega
  | ⟨1, _⟩ => show win0_0.index t 1 * 2048 + l.val = L.val; rw [x1]; omega

/-- Window 1's block, element by element. -/
theorem blk1 (c : Dev nD) (t : Fin cfg0.N) (r : Fin 1024) (l : Fin 128) (R : Fin 10240) (L : Fin 128) (hR : R.val = 1024 * (t.val / 16) + r.val) (hL : L.val = l.val) :
    (iblk m c 1 t : Vec Ideal S1024x128 .i32) (ix2 r l) = (V m c main_v2 : Vec Ideal S10240x128 .i32) (ix2 R L) := by
  obtain ⟨x0, x1, e0, e1, s0, s1, w0, w1, f0, f1, u0, u1, d0, d1, p0, g0, g1, z0, z1⟩ := index_eq t
  unfold iblk
  show V m c main_v2 (((cfg0.win 1).blk t).view.emb (ix2 r l)) = V m c main_v2 (ix2 R L)
  refine congrArg (V m c main_v2) (funext fun a => Fin.ext ?_)
  blk_simp
  match a with
  | ⟨0, _⟩ => show win0_1.index t 0 * 1024 + r.val = R.val; rw [e0]; omega
  | ⟨1, _⟩ => show win0_1.index t 1 * 128 + l.val = L.val; rw [e1]; omega

/-- Window 2's block, element by element. -/
theorem blk2 (c : Dev nD) (t : Fin cfg0.N) (r : Fin 1024) (l : Fin 128) (R : Fin 10240) (L : Fin 128) (hR : R.val = 1024 * (t.val / 16) + r.val) (hL : L.val = l.val) :
    (iblk m c 2 t : Vec Ideal S1024x128 .i32) (ix2 r l) = (V m c main_v14 : Vec Ideal S10240x128 .i32) (ix2 R L) := by
  obtain ⟨x0, x1, e0, e1, s0, s1, w0, w1, f0, f1, u0, u1, d0, d1, p0, g0, g1, z0, z1⟩ := index_eq t
  unfold iblk
  show V m c main_v14 (((cfg0.win 2).blk t).view.emb (ix2 r l)) = V m c main_v14 (ix2 R L)
  refine congrArg (V m c main_v14) (funext fun a => Fin.ext ?_)
  blk_simp
  match a with
  | ⟨0, _⟩ => show win0_2.index t 0 * 1024 + r.val = R.val; rw [s0]; omega
  | ⟨1, _⟩ => show win0_2.index t 1 * 128 + l.val = L.val; rw [s1]; omega

/-- Window 3's block, element by element. -/
theorem blk3 (c : Dev nD) (t : Fin cfg0.N) (r : Fin 2048) (l : Fin 1024) (R : Fin 2048) (L : Fin 16384) (hR : R.val = r.val) (hL : L.val = 1024 * (t.val % 16) + l.val) :
    (iblk m c 3 t : Vec Ideal S2048x1024 .i8) (ix2 r l) = (V m c main_arg2 : Vec Ideal S2048x16384 .i8) (ix2 R L) := by
  obtain ⟨x0, x1, e0, e1, s0, s1, w0, w1, f0, f1, u0, u1, d0, d1, p0, g0, g1, z0, z1⟩ := index_eq t
  unfold iblk
  show V m c main_arg2 (((cfg0.win 3).blk t).view.emb (ix2 r l)) = V m c main_arg2 (ix2 R L)
  refine congrArg (V m c main_arg2) (funext fun a => Fin.ext ?_)
  blk_simp
  match a with
  | ⟨0, _⟩ => show win0_3.index t 0 * 2048 + r.val = R.val; rw [w0]; omega
  | ⟨1, _⟩ => show win0_3.index t 1 * 1024 + l.val = L.val; rw [w1]; omega

/-- Window 4's block, element by element. -/
theorem blk4 (c : Dev nD) (t : Fin cfg0.N) (r : Fin 8) (l : Fin 1024) (R : Fin 8) (L : Fin 16384) (hR : R.val = r.val) (hL : L.val = 1024 * (t.val % 16) + l.val) :
    (iblk m c 4 t : Vec Ideal S8x1024 .i32) (ix2 r l) = (V m c main_v24 : Vec Ideal S8x16384 .i32) (ix2 R L) := by
  obtain ⟨x0, x1, e0, e1, s0, s1, w0, w1, f0, f1, u0, u1, d0, d1, p0, g0, g1, z0, z1⟩ := index_eq t
  unfold iblk
  show V m c main_v24 (((cfg0.win 4).blk t).view.emb (ix2 r l)) = V m c main_v24 (ix2 R L)
  refine congrArg (V m c main_v24) (funext fun a => Fin.ext ?_)
  blk_simp
  match a with
  | ⟨0, _⟩ => show win0_4.index t 0 * 8 + r.val = R.val; rw [f0]; omega
  | ⟨1, _⟩ => show win0_4.index t 1 * 1024 + l.val = L.val; rw [f1]; omega

/-- Window 5's block, element by element. -/
theorem blk5 (c : Dev nD) (t : Fin cfg0.N) (r : Fin 1024) (l : Fin 2048) (R : Fin 16384) (L : Fin 2048) (hR : R.val = 1024 * (t.val % 16) + r.val) (hL : L.val = l.val) :
    (iblk m c 5 t : Vec Ideal S1024x2048 .i8) (ix2 r l) = (V m c main_arg8 : Vec Ideal S16384x2048 .i8) (ix2 R L) := by
  obtain ⟨x0, x1, e0, e1, s0, s1, w0, w1, f0, f1, u0, u1, d0, d1, p0, g0, g1, z0, z1⟩ := index_eq t
  unfold iblk
  show V m c main_arg8 (((cfg0.win 5).blk t).view.emb (ix2 r l)) = V m c main_arg8 (ix2 R L)
  refine congrArg (V m c main_arg8) (funext fun a => Fin.ext ?_)
  blk_simp
  match a with
  | ⟨0, _⟩ => show win0_5.index t 0 * 1024 + r.val = R.val; rw [u0]; omega
  | ⟨1, _⟩ => show win0_5.index t 1 * 2048 + l.val = L.val; rw [u1]; omega

/-- Window 6's block, element by element. -/
theorem blk6 (c : Dev nD) (t : Fin cfg0.N) (r : Fin 8) (l : Fin 2048) (R : Fin 8) (L : Fin 2048) (hR : R.val = r.val) (hL : L.val = l.val) :
    (iblk m c 6 t : Vec Ideal S8x2048 .i32) (ix2 r l) = (V m c main_v53 : Vec Ideal S8x2048 .i32) (ix2 R L) := by
  obtain ⟨x0, x1, e0, e1, s0, s1, w0, w1, f0, f1, u0, u1, d0, d1, p0, g0, g1, z0, z1⟩ := index_eq t
  unfold iblk
  show V m c main_v53 (((cfg0.win 6).blk t).view.emb (ix2 r l)) = V m c main_v53 (ix2 R L)
  refine congrArg (V m c main_v53) (funext fun a => Fin.ext ?_)
  blk_simp
  match a with
  | ⟨0, _⟩ => show win0_6.index t 0 * 8 + r.val = R.val; rw [d0]; omega
  | ⟨1, _⟩ => show win0_6.index t 1 * 2048 + l.val = L.val; rw [d1]; omega

/-- Window 7's block is its whole array. -/
theorem blk7 (c : Dev nD) (t : Fin cfg0.N) (r : Fin 4) :
    (iblk m c 7 t : Vec Ideal S4 .i32) (ix1 r) = (V m c main_v34 : Vec Ideal S4 .i32) (ix1 r) := by
  obtain ⟨x0, x1, e0, e1, s0, s1, w0, w1, f0, f1, u0, u1, d0, d1, p0, g0, g1, z0, z1⟩ := index_eq t
  unfold iblk
  show V m c main_v34 (((cfg0.win 7).blk t).view.emb (ix1 r)) = V m c main_v34 (ix1 r)
  refine congrArg (V m c main_v34) (funext fun a => Fin.ext ?_)
  blk_simp
  match a with
  | ⟨0, _⟩ => show win0_7.index t 0 * 4 + r.val = r.val; rw [p0]; omega

end Cert.KernelIdeal.Hand

end
-- ==== Proof.Arrays.lean ====
/- The two results as functions of the arguments: what the kernel and the reference are both shown to leave. -/
module

public import proofs.«01_k».proof.Proof.Words
public import Idealize.ShloMosaic.Lib.Pipeline.ValueKit
public import Idealize.ShloMosaic.Lib.Pointwise.Tactic

@[expose] public section

noncomputable section

namespace Cert.Ffn

open Idealize.ShloMosaic

/-- A matrix of `w`-bit words. -/
abbrev Mat (w r c : ℕ) : Type := (⟨2, ![r, c]⟩ : Shape).Idx → BitVec w

/-- A vector of 32-bit words. -/
abbrev Row (n : ℕ) : Type := (⟨1, ![n]⟩ : Shape).Idx → BitVec 32

/-- A single 32-bit word. -/
abbrev One : Type := (⟨0, ![]⟩ : Shape).Idx → BitVec 32

/-- The activation's word at row `r` and column `f`: the codes `x` times the first weight `w1`, requantized, GELU, requantized
    and clamped. -/
def codeAt (x : Mat 8 10240 2048) (e : Mat 32 10240 1) (w1 : Mat 8 2048 16384) (m1 k1 b1 : Row 16384) (m2 k2 : One)
    (r : Fin 10240) (f : Fin 16384) : BitVec 32 :=
  gCode (fun l => (x (ix2 r l)).toInt) (fun l => (w1 (ix2 l f)).toInt) (m1 (ix1 f)) (k1 (ix1 f)) (e (ix2 r 0)) (b1 (ix1 f)) (m2 ix0) (k2 ix0)

/-- The first result: the activation's codes. -/
def gArr (x : Mat 8 10240 2048) (e : Mat 32 10240 1) (w1 : Mat 8 2048 16384) (m1 k1 b1 : Row 16384) (m2 k2 : One) : Mat 8 10240 16384 :=
  fun i => (codeAt x e w1 m1 k1 b1 m2 k2 (i 0) (i 1)).setWidth 8

/-- The second result: the activation's codes times the second weight `w2`, requantized, with the input shifted to the
    common exponent and the bias added. -/
def zArr (x : Mat 8 10240 2048) (e : Mat 32 10240 1) (w1 : Mat 8 2048 16384) (m1 k1 b1 : Row 16384) (m2 k2 : One)
    (w2 : Mat 8 16384 2048) (m3 k3 b2 : Row 2048) (ze : One) : Mat 32 10240 2048 :=
  fun i => zWord (fun f => (codeAt x e w1 m1 k1 b1 m2 k2 (i 0) f).toInt) (fun f => (w2 (ix2 f (i 1))).toInt)
    (m3 (ix1 (i 1))) (k3 (ix1 (i 1))) (x (ix2 (i 0) (i 1))) (IntOp.subi (e (ix2 (i 0) 0)) (ze ix0)) (b2 (ix1 (i 1)))

end Cert.Ffn

end
-- ==== Proof.KernelIdealValue.lean ====
/- What the kernel leaves in its two claimed results, as functions of the arguments. -/
module

public import proofs.«01_k».proof.Proof.KernelIdealFrame
public import proofs.«01_k».proof.Proof.KernelIdealWords
public import proofs.«01_k».proof.Proof.KernelIdealBlocks
public import proofs.«01_k».proof.Proof.Arrays
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Ffn

variable (m : (ℓ : Loc nD τ sig) → Buf (Elt Ideal) ℓ)

/-- There are 160 grid points. -/
theorem lt160 (t : Fin cfg0.N) : t.val < 160 := lt_of_lt_of_eq t.isLt (show cfg0.N = 160 from N_0)

/-- The row of the whole array that row `r` of a grid point's block is. -/
def rowOf (t : Fin cfg0.N) (r : Fin 1024) : Fin 10240 := ⟨1024 * (t.val / 16) + r.val, by have := lt160 t; omega⟩

/-- The column of the activation that column `l` of a grid point's block is. -/
def colOf (t : Fin cfg0.N) (l : Fin 1024) : Fin 16384 := ⟨1024 * (t.val % 16) + l.val, by omega⟩

/-- The activation's word at a row and a column, of this program's arguments. -/
def word (c : Dev nD) (R : Fin 10240) (L : Fin 16384) : BitVec 32 :=
  codeAt (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) R L

theorem ix1_eq {n : ℕ} (a : Fin n) : ValueIdx.ix1 a = ix1 a := by
  funext i
  match i with
  | ⟨0, _⟩ => rfl

theorem rq_eq (c : Dev nD) (t : Fin cfg0.N) (k : Fin 4) : rq (F := Ideal) (iblk m c 7 t) k = (V m c main_v34 : Vec Ideal S4 .i32) (ix1 (n0 := 4) k) := by
  refine Eq.trans ?_ (blk7 m c t k)
  unfold rq
  rw [ix1_eq]

/-- The exponents' block. -/
theorem expo (c : Dev nD) (t : Fin cfg0.N) (r : Fin 1024) (l : Fin 128) :
    (iblk m c 1 t : Vec Ideal S1024x128 .i32) (ix2 r l) = argE m c (ix2 (rowOf t r) 0) :=
  (blk1 m c t r l (rowOf t r) l rfl rfl).trans (V_e m c _ _)

/-- A grid point's word of the activation is the whole array's. -/
theorem blockWord_eq (c : Dev nD) (t : Fin cfg0.N) (r l : Fin 1024) :
    blockWord (iblk m c 0 t) (fun r => argE m c (ix2 (rowOf t r) 0)) (iblk m c 3 t) (iblk m c 4 t) (iblk m c 7 t) r l
      = word m c (rowOf t r) (colOf t l) := by
  have ex : (fun k : Fin 2048 => ((iblk m c 0 t : Vec Ideal S1024x2048 .i8) (ix2 r k) : BitVec 8).toInt)
      = fun k => (argX m c (ix2 (rowOf t r) k) : BitVec 8).toInt :=
    funext fun k => by rw [blk0 m c t r k (rowOf t r) k rfl rfl, V_x]
  have ew : (fun k : Fin 2048 => ((iblk m c 3 t : Vec Ideal S2048x1024 .i8) (ix2 k l) : BitVec 8).toInt)
      = fun k => ((m ((c : Thread nD τ).loc main_arg2) : Vec Ideal S2048x16384 .i8) (ix2 k (colOf t l)) : BitVec 8).toInt :=
    funext fun k => by rw [blk3 m c t k l k (colOf t l) rfl rfl, V_main_arg2]
  unfold blockWord word codeAt gCode
  rw [ex, ew, blk4 m c t 0 l 0 (colOf t l) rfl rfl, blk4 m c t 1 l 1 (colOf t l) rfl rfl, blk4 m c t 2 l 2 (colOf t l) rfl rfl,
    V_fp0, V_fp1, V_fp2, rq_eq, rq_eq, rq_eq, rq_eq, V_sp0, V_sp1, V_sp2, V_sp3]

/-- Two points of one row block stage the same rows of the input. -/
theorem x_same (c : Dev nD) (t u : Fin cfg0.N) (h : t.val / 16 = u.val / 16) :
    (iblk m c 0 t : Vec Ideal S1024x2048 .i8) = iblk m c 0 u := by
  funext y
  obtain ⟨r, l, rfl⟩ : ∃ (r : Fin 1024) (l : Fin 2048), y = ix2 r l := ⟨y 0, y 1, (ix2_eta _).symm⟩
  rw [blk0 m c t r l (rowOf t r) l rfl rfl]
  refine (blk0 m c u r l (rowOf t r) l ?_ rfl).symm
  rw [← h]; rfl

/-- The rows kept as operand are those of the point's own block. -/
theorem kept (c : Dev nD) : ∀ (n : ℕ) (hn : n < cfg0.N), (outsAt0 m c n hn).2.2.2 = k0_pay1 (iblk m c 0 ⟨n, hn⟩) := by
  intro n
  induction n with
  | zero => intro hn; exact congrArg (fun o => o.2.2.2) (outsAt0_A m c ⟨0, hn⟩ rfl)
  | succ n ih =>
    intro hn
    by_cases h0 : (n + 1) % 16 = 0
    · exact congrArg (fun o => o.2.2.2) (outsAt0_A m c ⟨n + 1, hn⟩ h0)
    · have hs : (iblk m c 0 ⟨n, Nat.lt_of_succ_lt hn⟩ : Vec Ideal S1024x2048 .i8) = iblk m c 0 ⟨n + 1, hn⟩ :=
        x_same m c _ _ (by show n / 16 = (n + 1) / 16; omega)
      refine Eq.trans ?_ ((ih (Nat.lt_of_succ_lt hn)).trans (congrArg k0_pay1 hs))
      by_cases h1 : (n + 1) % 16 = 15
      · exact congrArg (fun o => o.2.2.2) (outsAt0_C m c ⟨n + 1, hn⟩ h0 h1)
      · exact congrArg (fun o => o.2.2.2) (outsAt0_B m c ⟨n + 1, hn⟩ h0 h1)

theorem kept_prev (c : Dev nD) (t : Fin cfg0.N) (h0 : ¬t.val % 16 = 0) :
    (outsAt0 m c (t.val - 1) (Nat.lt_of_le_of_lt (Nat.sub_le _ _) t.isLt)).2.2.2 = k0_pay1 (iblk m c 0 t) :=
  (kept m c _ _).trans (congrArg k0_pay1 (x_same m c _ _ (by show (t.val - 1) / 16 = t.val / 16; omega)))

/-- The block of codes every grid point stores. -/
theorem g_eq (c : Dev nD) (t : Fin cfg0.N) : (outsAt0 m c t.val t.isLt).2.1
    = gStep (iblk m c 1 t) (iblk m c 3 t) (iblk m c 4 t) (iblk m c 7 t) (k0_pay1 (iblk m c 0 t)) := by
  by_cases h0 : t.val % 16 = 0
  · rw [outsAt0_A m c t h0]
  · by_cases h1 : t.val % 16 = 15
    · rw [outsAt0_C m c t h0 h1, kept_prev m c t h0]
    · rw [outsAt0_B m c t h0 h1, kept_prev m c t h0]

theorem g_apply (c : Dev nD) (t : Fin cfg0.N) (r l : Fin 1024) :
    ((outsAt0 m c t.val t.isLt).2.1 : Vec Ideal S1024x1024 .i8) (ix2 r l) = (word m c (rowOf t r) (colOf t l)).setWidth 8 := by
  rw [g_eq]
  exact (gStep_apply _ _ _ (expo m c t) _ _ _ r l).trans (congrArg (BitVec.setWidth 8) (blockWord_eq m c t r l))

/-- One term of the second product: the activation's word at column `p` times the second weight. -/
def term (c : Dev nD) (R : Fin 10240) (C : Fin 2048) (p : ℕ) : ℤ :=
  if h : p < 16384 then (word m c R ⟨p, h⟩).toInt * ((m ((c : Thread nD τ).loc main_arg8) : Vec Ideal S16384x2048 .i8) (ix2 (⟨p, h⟩ : Fin 16384) C) : BitVec 8).toInt else 0

/-- A grid point adds its 1024 terms. -/
theorem add_terms (c : Dev nD) (t : Fin cfg0.N) (old : Vec Ideal S1024x2048 .i32) (r : Fin 1024) (C : Fin 2048)
    (hold : old (ix2 r C) = BitVec.ofInt 32 (∑ p ∈ Finset.range (1024 * (t.val % 16)), term m c (rowOf t r) C p)) :
    zStep (F := Ideal) (iblk m c 1 t) (iblk m c 3 t) (iblk m c 4 t) (iblk m c 5 t) (iblk m c 7 t) (k0_pay1 (iblk m c 0 t)) old (ix2 r C)
      = BitVec.ofInt 32 (∑ p ∈ Finset.range (1024 * (t.val % 16 + 1)), term m c (rowOf t r) C p) := by
  have hs : (∑ k ∈ Finset.range 1024, term m c (rowOf t r) C (1024 * (t.val % 16) + k))
      = ∑ l : Fin 1024, (word m c (rowOf t r) (colOf t l)).toInt * ((m ((c : Thread nD τ).loc main_arg8) : Vec Ideal S16384x2048 .i8) (ix2 (colOf t l) C) : BitVec 8).toInt := by
    refine (Fin.sum_univ_eq_sum_range (fun k => term m c (rowOf t r) C (1024 * (t.val % 16) + k)) 1024).symm.trans ?_
    refine Finset.sum_congr rfl fun l _ => ?_
    exact dif_pos (colOf t l).isLt
  refine (zStep_apply _ _ _ (expo m c t) _ _ _ _ _ r C).trans ?_
  have hl : ∀ l : Fin 1024, (iblk m c 5 t : Vec Ideal S1024x2048 .i8) (ix2 l C) = (m ((c : Thread nD τ).loc main_arg8) : Vec Ideal S16384x2048 .i8) (ix2 (colOf t l) C) := fun l =>
    (blk5 m c t l C (colOf t l) C rfl rfl).trans (congrFun (V_main_arg8 m c) _)
  simp only [blockWord_eq, hl]
  rw [hold, Nat.mul_add, Nat.mul_one, Finset.sum_range_add, BitVec.ofInt_add, hs]
  unfold dotI IntOp.addi
  rfl

/-- The accumulated products before a row block's last point. -/
theorem z_acc (c : Dev nD) : ∀ (n : ℕ) (hn : n < cfg0.N) (_ : ¬n % 16 = 15) (r : Fin 1024) (C : Fin 2048),
    ((outsAt0 m c n hn).2.2.1 : Vec Ideal S1024x2048 .i32) (ix2 r C)
      = BitVec.ofInt 32 (∑ p ∈ Finset.range (1024 * (n % 16 + 1)), term m c (rowOf ⟨n, hn⟩ r) C p) := by
  have first : ∀ (t : Fin cfg0.N) (h0 : t.val % 16 = 0) (r : Fin 1024) (C : Fin 2048),
      ((outsAt0 m c t.val t.isLt).2.2.1 : Vec Ideal S1024x2048 .i32) (ix2 r C)
        = BitVec.ofInt 32 (∑ p ∈ Finset.range (1024 * (t.val % 16 + 1)), term m c (rowOf t r) C p) := by
    intro t h0 r C
    rw [outsAt0_A m c t h0]
    refine add_terms m c t _ r C ?_
    rw [h0]
    rfl
  intro n
  induction n with
  | zero => intro hn _ r C; exact first ⟨0, hn⟩ rfl r C
  | succ n ih =>
    intro hn h1 r C
    by_cases h0 : (n + 1) % 16 = 0
    · exact first ⟨n + 1, hn⟩ h0 r C
    · have hB := outsAt0_B m c ⟨n + 1, hn⟩ h0 h1
      have hz : (outsAt0 m c (n + 1) hn).2.2.1 = zStep (iblk m c 1 ⟨n + 1, hn⟩) (iblk m c 3 ⟨n + 1, hn⟩) (iblk m c 4 ⟨n + 1, hn⟩)
          (iblk m c 5 ⟨n + 1, hn⟩) (iblk m c 7 ⟨n + 1, hn⟩) (k0_pay1 (iblk m c 0 ⟨n + 1, hn⟩)) (outsAt0 m c n (Nat.lt_of_succ_lt hn)).2.2.1 := by
        rw [← kept_prev m c ⟨n + 1, hn⟩ h0]
        exact congrArg (fun o => o.2.2.1) hB
      rw [hz]
      refine add_terms m c ⟨n + 1, hn⟩ _ r C ?_
      refine (ih (Nat.lt_of_succ_lt hn) (by omega) r C).trans ?_
      have e1 : n % 16 + 1 = (n + 1) % 16 := by omega
      have e2 : rowOf ⟨n, Nat.lt_of_succ_lt hn⟩ r = rowOf ⟨n + 1, hn⟩ r :=
        Fin.ext (by show 1024 * (n / 16) + r.val = 1024 * ((n + 1) / 16) + r.val; omega)
      rw [e1, e2]

/-- The block of the second result a row block's last point stores. -/
theorem z_apply (c : Dev nD) (t : Fin cfg0.N) (h1 : t.val % 16 = 15) (r : Fin 1024) (C : Fin 2048) :
    ((outsAt0 m c t.val t.isLt).2.2.1 : Vec Ideal S1024x2048 .i32) (ix2 r C)
      = zWord (fun f => (word m c (rowOf t r) f).toInt) (fun f => ((m ((c : Thread nD τ).loc main_arg8) : Vec Ideal S16384x2048 .i8) (ix2 f C) : BitVec 8).toInt)
          ((m ((c : Thread nD τ).loc main_arg9) : Vec Ideal S2048 .i32) (ix1 C)) ((m ((c : Thread nD τ).loc main_arg10) : Vec Ideal S2048 .i32) (ix1 C)) (argX m c (ix2 (rowOf t r) C))
          (IntOp.subi (argE m c (ix2 (rowOf t r) 0)) ((m ((c : Thread nD τ).loc main_arg12) : Vec Ideal S_ .i32) ix0)) ((m ((c : Thread nD τ).loc main_arg11) : Vec Ideal S2048 .i32) (ix1 C)) := by
  have h0 : ¬t.val % 16 = 0 := by omega
  rw [outsAt0_C m c t h0 h1, kept_prev m c t h0]
  refine (zBlock_apply _ _ _ _ r C).trans ?_
  rw [add_terms m c t _ r C ?_]
  · have hs : BitVec.ofInt 32 (∑ p ∈ Finset.range (1024 * (t.val % 16 + 1)), term m c (rowOf t r) C p)
        = dotI (fun f => (word m c (rowOf t r) f).toInt) (fun f : Fin 16384 => ((m ((c : Thread nD τ).loc main_arg8) : Vec Ideal S16384x2048 .i8) (ix2 f C) : BitVec 8).toInt) := by
      rw [h1, dotI]
      refine congrArg (BitVec.ofInt 32) ?_
      refine (Fin.sum_univ_eq_sum_range (fun p => term m c (rowOf t r) C p) 16384).symm.trans ?_
      refine Finset.sum_congr rfl fun f _ => ?_
      rw [term, dif_pos f.isLt]
    rw [hs, blk6 m c t 0 C 0 C rfl rfl, blk6 m c t 1 C 1 C rfl rfl, blk6 m c t 2 C 2 C rfl rfl, blk6 m c t 3 C 3 C rfl rfl,
      blk2 m c t r 0 (rowOf t r) 0 rfl rfl, blk0 m c t r C (rowOf t r) C rfl rfl, V_x, V_dp0, V_dp1, V_dp2, V_dp3, V_sh, muli_factor]
    rfl
  · refine (z_acc m c _ _ (by omega) r C).trans ?_
    have e1 : (t.val - 1) % 16 + 1 = t.val % 16 := by omega
    have e2 : rowOf ⟨t.val - 1, Nat.lt_of_le_of_lt (Nat.sub_le _ _) t.isLt⟩ r = rowOf t r :=
      Fin.ext (by show 1024 * ((t.val - 1) / 16) + r.val = 1024 * (t.val / 16) + r.val; omega)
    rw [e1, e2]

/-- The first result's array after the run. -/
theorem final9 (c : Dev nD) : (dats m 0 c).arrAt 9 cfg0.N = gArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) := by
  refine (dats m 0 c).arrAt_eq_of_covers 9 _ (by decide +kernel) fun t hf y => ?_
  obtain ⟨x0, x1, e0, e1, s0, s1, w0, w1, f0, f1, u0, u1, d0, d1, p0, g0, g1, z0, z1⟩ := index_eq t
  obtain ⟨r, l, rfl⟩ : ∃ (r l : Fin 1024), y = ix2 r l := ⟨y 0, y 1, (ix2_eta _).symm⟩
  have he : (((cfg0.win 9).blk t).view.emb (ix2 r l) : S10240x16384.Idx) = ix2 (rowOf t r) (colOf t l) := by
    refine funext fun a => Fin.ext ?_
    blk_simp
    match a with
    | ⟨0, _⟩ => show win0_9.index t 0 * 1024 + r.val = 1024 * (t.val / 16) + r.val; rw [g0]; omega
    | ⟨1, _⟩ => show win0_9.index t 1 * 1024 + l.val = 1024 * (t.val % 16) + l.val; rw [g1]; omega
  rw [he]
  blk_simp
  rw [after0_9]
  exact g_apply m c t r l

/-- The second result's array after the run. -/
theorem final10 (c : Dev nD) : (dats m 0 c).arrAt 10 cfg0.N = zArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) (m ((c : Thread nD τ).loc main_arg8) : Vec Ideal S16384x2048 .i8) (m ((c : Thread nD τ).loc main_arg9) : Vec Ideal S2048 .i32) (m ((c : Thread nD τ).loc main_arg10) : Vec Ideal S2048 .i32) (m ((c : Thread nD τ).loc main_arg11) : Vec Ideal S2048 .i32) (m ((c : Thread nD τ).loc main_arg12) : Vec Ideal S_ .i32) := by
  refine (dats m 0 c).arrAt_eq_of_covers 10 _ (by decide +kernel) fun t hf y => ?_
  obtain ⟨x0, x1, e0, e1, s0, s1, w0, w1, f0, f1, u0, u1, d0, d1, p0, g0, g1, z0, z1⟩ := index_eq t
  have h1 : t.val % 16 = 15 := (flush0_10 t).mp hf
  obtain ⟨r, l, rfl⟩ : ∃ (r : Fin 1024) (l : Fin 2048), y = ix2 r l := ⟨y 0, y 1, (ix2_eta _).symm⟩
  have he : (((cfg0.win 10).blk t).view.emb (ix2 r l) : S10240x2048.Idx) = ix2 (rowOf t r) l := by
    refine funext fun a => Fin.ext ?_
    blk_simp
    match a with
    | ⟨0, _⟩ => show win0_10.index t 0 * 1024 + r.val = 1024 * (t.val / 16) + r.val; rw [z0]; omega
    | ⟨1, _⟩ => show win0_10.index t 1 * 2048 + l.val = l.val; rw [z1]; omega
  rw [he]
  blk_simp
  rw [after0_10]
  exact z_apply m c t h1 r l

/-- The kernel's run: both results as functions of the arguments, the arguments kept. -/
theorem run_value (ρ : Dev nD → PrngReg) : θ_run defs (onTc (τ := τ) (main (F := Ideal))) ⟨m, fun _ => 0, ρ⟩ (fun r => ∀ c : Dev nD,
      r.2.mem ((c.tc : Thread nD τ).loc main_v54_1) = gArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32)
      ∧ r.2.mem ((c.tc : Thread nD τ).loc main_v54_2) = zArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) (m ((c : Thread nD τ).loc main_arg8) : Vec Ideal S16384x2048 .i8) (m ((c : Thread nD τ).loc main_arg9) : Vec Ideal S2048 .i32) (m ((c : Thread nD τ).loc main_arg10) : Vec Ideal S2048 .i32) (m ((c : Thread nD τ).loc main_arg11) : Vec Ideal S2048 .i32) (m ((c : Thread nD τ).loc main_arg12) : Vec Ideal S_ .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h.1 c).1 9).trans (final9 m c), ((h.1 c).1 10).trans (final10 m c), h.2 c⟩)
    (θ_run_and (run_main m ρ) (unchanged m ρ))

end Cert.KernelIdeal.Hand

end
-- ==== Proof.ReferenceIdealWords.lean ====
/- What the reference's one body leaves in its two result arrays, element by element, over the extended reals. -/
module

public import proofs.«01_k».proof.Proof.Gen.ReferenceIdeal.Frame
public import proofs.«01_k».proof.Proof.Words
public import Idealize.ShloMosaic.Lib.Pipeline.Value
public import Idealize.ShloMosaic.Lib.MatmulPlain
public import Idealize.ShloMosaic.Lib.Pointwise.Tactic

@[expose] public section

set_option maxRecDepth 16384

noncomputable section

namespace Cert.ReferenceIdeal.Hand

open Cert.ReferenceIdeal Cert.ReferenceIdeal.Gen
open Idealize.ShloMosaic
open Cert.Ffn

/-- The two spellings of a rank-2 index. -/
theorem ix2_eq {n0 n1 : ℕ} (a : Fin n0) (b : Fin n1) : ValueIdx.ix2 a b = ix2 a b := by
  funext i
  match i with
  | ⟨0, _⟩ => rfl
  | ⟨1, _⟩ => rfl

theorem zero2 : (![0, 0] : Fin 2 → ℕ) = fun _ => 0 := by
  funext i
  match i with
  | ⟨0, _⟩ => rfl
  | ⟨1, _⟩ => rfl

/-- One element of the first product. -/
theorem mm1 (a : Vec Ideal S10240x2048 .f32) (b : Vec Ideal S2048x16384 .f32) (r : Fin 10240) (c : Fin 16384) :
    matmul (F := Ideal) (φ₁ := .f32) (φ₂ := .f32) dot_S10240x2048_S2048x16384_S10240x16384_1_0_0_1_n_n none a b (constant S10240x16384 .f32 0x00000000#32) (ix2 r c)
      = ∑ l : Fin 2048, a (ix2 r l) * b (ix2 l c) := by
  refine (Ideal.matmul_plain_apply none a b (constant S10240x16384 .f32 0x00000000#32) r c).trans ?_
  simp only [ix2_eq]
  rw [show (constant (F := Ideal) S10240x16384 .f32 0x00000000#32) (ix2 r c) = 0 from Ideal.ofBits_zero_f32, zero_add]

/-- One element of the second product. -/
theorem mm2 (a : Vec Ideal S10240x16384 .f32) (b : Vec Ideal S16384x2048 .f32) (r : Fin 10240) (c : Fin 2048) :
    matmul (F := Ideal) (φ₁ := .f32) (φ₂ := .f32) dot_S10240x16384_S16384x2048_S10240x2048_1_0_0_1_n_n none a b (constant S10240x2048 .f32 0x00000000#32) (ix2 r c)
      = ∑ l : Fin 16384, a (ix2 r l) * b (ix2 l c) := by
  refine (Ideal.matmul_plain_apply none a b (constant S10240x2048 .f32 0x00000000#32) r c).trans ?_
  simp only [ix2_eq]
  rw [show (constant (F := Ideal) S10240x2048 .f32 0x00000000#32) (ix2 r c) = 0 from Ideal.ofBits_zero_f32, zero_add]

/-- One element of the requantized first product. -/
theorem pay4_apply (x0 : Vec Ideal S10240x2048 .i8) (x1 : Vec Ideal S10240x1 .i32) (x2 : Vec Ideal S2048x16384 .i8)
    (x3 x4 : Vec Ideal S1x16384 .i32) (r : Fin 10240) (c : Fin 16384) :
    k0_pay4 (F := Ideal) x0 x1 x2 x3 x4 (ix2 r c)
      = dyadic (dotI (fun l : Fin 2048 => (x0 (ix2 r l) : BitVec 8).toInt) (fun l => (x2 (ix2 l c) : BitVec 8).toInt))
          (x3 (ix2 0 c)) (IntOp.subi (x4 (ix2 0 c)) (x1 (ix2 r 0))) := by
  rw [← fptosi_dot (by norm_num) _ _ (fun _ => abs_toInt8 _) (fun _ => abs_toInt8 _)]
  have hm := mm1 (sitofp (F := Ideal) .f32 x0) (sitofp (F := Ideal) .f32 x2) r c
  refine Eq.trans ?_ (congrArg (fun s => dyadic (Ideal.fptosi 32 s) (x3 (ix2 0 c)) (IntOp.subi (x4 (ix2 0 c)) (x1 (ix2 r 0)))) hm)
  unfold k0_pay4 k0_pay3 k0_pay2
  simp only [shapeCast_self]
  generalize (matmul (F := Ideal) (φ₁ := .f32) (φ₂ := .f32) dot_S10240x2048_S2048x16384_S10240x16384_1_0_0_1_n_n none (sitofp (F := Ideal) .f32 x0) (sitofp (F := Ideal) .f32 x2) (constant S10240x16384 .f32 0x00000000#32)) = A
  pointwise
  rfl

/-- One element of the activation's polynomial. -/
theorem pay6_apply (v : IVec S10240x16384 32) (x5 : Vec Ideal S1x16384 .i32) (r : Fin 10240) (c : Fin 16384) :
    k0_pay6 v (k0_pay5 (F := Ideal) x5) (ix2 r c) = gelu (clampH (IntOp.addi (v (ix2 r c)) (x5 (ix2 0 c)))) := by
  rw [clampH, maxsi_comm, minsi_comm]
  unfold k0_pay6 k0_pay5
  simp only [shapeCast_self]
  pointwise
  rfl

/-- One element of the first result. -/
theorem pay13_apply (u w : IVec S10240x16384 32) (x6 x7 : Vec Ideal S1x1 .i32) (r : Fin 10240) (c : Fin 16384) :
    k0_pay13 (k0_pay7 (F := Ideal) x6) (k0_pay8 (F := Ideal) x7) (k0_pay9 (F := Ideal) x7) (k0_pay10 (F := Ideal) u w x7)
        (k0_pay11 (F := Ideal) u w x7) (k0_pay12 (F := Ideal) x6) (ix2 r c)
      = (clamp8 (dyadic (k0_pay6 u w (ix2 r c)) (x6 (ix2 0 0)) (x7 (ix2 0 0)))).setWidth 8 := by
  rw [clamp8, maxsi_comm, minsi_comm]
  unfold k0_pay13 k0_pay12 k0_pay11 k0_pay10 k0_pay9 k0_pay8 k0_pay7
  generalize k0_pay6 u w = A
  simp only [shapeCast_self]
  pointwise
  rfl

/-- What the body leaves in the first result's array. -/
theorem out13_apply (x0 : Vec Ideal S10240x2048 .i8) (x1 : Vec Ideal S10240x1 .i32) (x2 : Vec Ideal S2048x16384 .i8) (x3 : Vec Ideal S1x16384 .i32) (x4 : Vec Ideal S1x16384 .i32) (x5 : Vec Ideal S1x16384 .i32) (x6 : Vec Ideal S1x1 .i32) (x7 : Vec Ideal S1x1 .i32) (x8 : Vec Ideal S16384x2048 .i8) (x9 : Vec Ideal S1x2048 .i32) (x10 : Vec Ideal S1x2048 .i32) (x11 : Vec Ideal S1x2048 .i32) (x12 : Vec Ideal S1x1 .i32)
    (r : Fin 10240) (c : Fin 16384) :
    out0_13 (F := Ideal) x0 x1 x2 x3 x4 x5 x6 x7 x8 x9 x10 x11 x12 (ix2 r c)
      = (gCode (fun l : Fin 2048 => (x0 (ix2 r l) : BitVec 8).toInt) (fun l => (x2 (ix2 l c) : BitVec 8).toInt)
          (x3 (ix2 0 c)) (x4 (ix2 0 c)) (x1 (ix2 r 0)) (x5 (ix2 0 c)) (x6 (ix2 0 0)) (x7 (ix2 0 0))).setWidth 8 := by
  unfold_out out0_13
  rw [View.canon_unit_zero zero2]
  simp only [View.ld_unit_zero (S := S10240x2048) zero2, View.ld_unit_zero (S := S10240x1) zero2, View.ld_unit_zero (S := S2048x16384) zero2, View.ld_unit_zero (S := S1x16384) zero2, View.ld_unit_zero (S := S1x1) zero2, View.ld_unit_zero (S := S16384x2048) zero2, View.ld_unit_zero (S := S1x2048) zero2]
  rw [pay13_apply, pay6_apply, pay4_apply]
  rfl

/-- One element of the second result, from the codes of the first. -/
theorem pay1_apply (x0 : Vec Ideal S10240x2048 .i8) (x1 : Vec Ideal S10240x1 .i32) (v68 v72 v74 : IVec S1x1 32) (v76 v82 v83 : IVec S10240x16384 32)
    (x8 : Vec Ideal S16384x2048 .i8) (x9 x10 x11 : Vec Ideal S1x2048 .i32) (x12 : Vec Ideal S1x1 .i32) (r : Fin 10240) (c : Fin 2048) :
    k0_pay1 (F := Ideal) (k0_pay2 (F := Ideal) x0) (k0_pay3 (F := Ideal) x1) (k0_pay16 (F := Ideal) x10) (k0_pay17 (F := Ideal) x10)
        (k0_pay18 (F := Ideal) v68 v72 v74 v76 v82 v83 x8 x9 x10) (k0_pay19 (F := Ideal) v68 v72 v74 v76 v82 v83 x8 x9 x10) x12 x11 (ix2 r c)
      = zWord (fun l : Fin 16384 => (k0_pay13 v68 v72 v74 v76 v82 v83 (ix2 r l) : BitVec 8).toInt) (fun l => (x8 (ix2 l c) : BitVec 8).toInt)
          (x9 (ix2 0 c)) (x10 (ix2 0 c)) (x0 (ix2 r c)) (IntOp.subi (x1 (ix2 r 0)) (x12 (ix2 0 0))) (x11 (ix2 0 c)) := by
  rw [zWord, ← fptosi_dot (by norm_num) _ _ (fun _ => abs_toInt8 _) (fun _ => abs_toInt8 _)]
  have hm := mm2 (sitofp (F := Ideal) .f32 (k0_pay13 v68 v72 v74 v76 v82 v83)) (sitofp (F := Ideal) .f32 x8) r c
  refine Eq.trans ?_ (congrArg (fun s => IntOp.addi (IntOp.addi (dyadic (Ideal.fptosi 32 s) (x9 (ix2 0 c)) (x10 (ix2 0 c)))
    (IntOp.shli .vector ((x0 (ix2 r c) : BitVec 8).signExtend 32) (IntOp.subi (x1 (ix2 r 0)) (x12 (ix2 0 0))))) (x11 (ix2 0 c))) hm)
  unfold k0_pay1 k0_pay19 k0_pay18 k0_pay14 k0_pay17 k0_pay16 k0_pay15 k0_pay3 k0_pay2
  generalize k0_pay13 v68 v72 v74 v76 v82 v83 = G
  simp only [shapeCast_self]
  generalize (matmul (F := Ideal) (φ₁ := .f32) (φ₂ := .f32) dot_S10240x16384_S16384x2048_S10240x2048_1_0_0_1_n_n none (sitofp (F := Ideal) .f32 G) (sitofp (F := Ideal) .f32 x8) (constant S10240x2048 .f32 0x00000000#32)) = A
  pointwise
  rfl

/-- What the body leaves in the second result's array. -/
theorem out14_apply (x0 : Vec Ideal S10240x2048 .i8) (x1 : Vec Ideal S10240x1 .i32) (x2 : Vec Ideal S2048x16384 .i8) (x3 : Vec Ideal S1x16384 .i32) (x4 : Vec Ideal S1x16384 .i32) (x5 : Vec Ideal S1x16384 .i32) (x6 : Vec Ideal S1x1 .i32) (x7 : Vec Ideal S1x1 .i32) (x8 : Vec Ideal S16384x2048 .i8) (x9 : Vec Ideal S1x2048 .i32) (x10 : Vec Ideal S1x2048 .i32) (x11 : Vec Ideal S1x2048 .i32) (x12 : Vec Ideal S1x1 .i32)
    (r : Fin 10240) (c : Fin 2048) :
    out0_14 (F := Ideal) x0 x1 x2 x3 x4 x5 x6 x7 x8 x9 x10 x11 x12 (ix2 r c)
      = zWord (fun f : Fin 16384 => (gCode (fun l : Fin 2048 => (x0 (ix2 r l) : BitVec 8).toInt) (fun l => (x2 (ix2 l f) : BitVec 8).toInt)
            (x3 (ix2 0 f)) (x4 (ix2 0 f)) (x1 (ix2 r 0)) (x5 (ix2 0 f)) (x6 (ix2 0 0)) (x7 (ix2 0 0))).toInt)
          (fun f => (x8 (ix2 f c) : BitVec 8).toInt)
          (x9 (ix2 0 c)) (x10 (ix2 0 c)) (x0 (ix2 r c)) (IntOp.subi (x1 (ix2 r 0)) (x12 (ix2 0 0))) (x11 (ix2 0 c)) := by
  unfold_out out0_14
  rw [View.canon_unit_zero zero2]
  simp only [View.ld_unit_zero (S := S10240x2048) zero2, View.ld_unit_zero (S := S10240x1) zero2, View.ld_unit_zero (S := S2048x16384) zero2, View.ld_unit_zero (S := S1x16384) zero2, View.ld_unit_zero (S := S1x1) zero2, View.ld_unit_zero (S := S16384x2048) zero2, View.ld_unit_zero (S := S1x2048) zero2]
  rw [pay1_apply]
  refine congrArg (fun g => zWord g (fun f => (x8 (ix2 f c) : BitVec 8).toInt) (x9 (ix2 0 c)) (x10 (ix2 0 c)) (x0 (ix2 r c))
    (IntOp.subi (x1 (ix2 r 0)) (x12 (ix2 0 0))) (x11 (ix2 0 c))) (funext fun f => ?_)
  rw [pay13_apply, pay6_apply, pay4_apply]
  exact toInt_code _

end Cert.ReferenceIdeal.Hand

end
-- ==== Proof.ReferenceIdealValue.lean ====
/- What the reference leaves in its two results, as functions of the arguments. -/
module

public import proofs.«01_k».proof.Proof.Gen.ReferenceIdeal.Frame
public import proofs.«01_k».proof.Proof.ReferenceIdealWords
public import proofs.«01_k».proof.Proof.Arrays
public import Idealize.ShloMosaic.Lib.Pipeline.ValueKit
public import Idealize.ShloMosaic.Lib.KernelVsHost
public import Idealize.ShloMosaic.Lib.StableHlo.RunRead
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.Ffn

variable (m : (ℓ : Loc nD τ sig) → Buf (Elt Ideal) ℓ)

/-- The codes of the input as a matrix of 10240 rows. -/
def argX (c : Dev nD) : Vec Ideal S10240x2048 .i8 :=
  shapeCast S10240x2048 (m ((c : Thread nD τ).loc main_arg0) : Vec Ideal S8x1280x2048 .i8) shapeCasts_S8x1280x2048_S10240x2048

/-- The exponents of the input's rows as one column. -/
def argE (c : Dev nD) : Vec Ideal S10240x1 .i32 :=
  shapeCast S10240x1 (m ((c : Thread nD τ).loc main_arg1) : Vec Ideal S8x1280 .i32) shapeCasts_S8x1280_S10240x1

/-- Every window's one block sits at the array's start. -/
theorem index_zero : ∀ (t : Fin grid0.N) (a : Fin 2), win0_0.index t a = 0 ∧ win0_1.index t a = 0 ∧ win0_2.index t a = 0 ∧ win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 ∧ win0_13.index t a = 0 ∧ win0_14.index t a = 0 := by
  decide +kernel

/-- Window 0's block is its whole array. -/
theorem blk0 (c : Dev nD) (t : Fin cfg0.N) : (iblk m c 0 t : Vec Ideal S10240x2048 .i8) = V m c main_v0 := by
  have h0 := index_zero t 0
  have h1 := index_zero t 1
  funext y
  unfold iblk
  show V m c main_v0 (((cfg0.win 0).blk t).view.emb y) = V m c main_v0 y
  refine congrArg (V m c main_v0) (funext fun a => Fin.ext ?_)
  blk_simp
  match a with
  | ⟨0, _⟩ => show win0_0.index t 0 * _ + _ = _; rw [h0.1]; exact (by omega)
  | ⟨1, _⟩ => show win0_0.index t 1 * _ + _ = _; rw [h1.1]; exact (by omega)

/-- Window 1's block is its whole array. -/
theorem blk1 (c : Dev nD) (t : Fin cfg0.N) : (iblk m c 1 t : Vec Ideal S10240x1 .i32) = V m c main_v1 := by
  have h0 := index_zero t 0
  have h1 := index_zero t 1
  funext y
  unfold iblk
  show V m c main_v1 (((cfg0.win 1).blk t).view.emb y) = V m c main_v1 y
  refine congrArg (V m c main_v1) (funext fun a => Fin.ext ?_)
  blk_simp
  match a with
  | ⟨0, _⟩ => show win0_1.index t 0 * _ + _ = _; rw [h0.2.1]; exact (by omega)
  | ⟨1, _⟩ => show win0_1.index t 1 * _ + _ = _; rw [h1.2.1]; exact (by omega)

/-- Window 2's block is its whole array. -/
theorem blk2 (c : Dev nD) (t : Fin cfg0.N) : (iblk m c 2 t : Vec Ideal S2048x16384 .i8) = V m c main_arg2 := by
  have h0 := index_zero t 0
  have h1 := index_zero t 1
  funext y
  unfold iblk
  show V m c main_arg2 (((cfg0.win 2).blk t).view.emb y) = V m c main_arg2 y
  refine congrArg (V m c main_arg2) (funext fun a => Fin.ext ?_)
  blk_simp
  match a with
  | ⟨0, _⟩ => show win0_2.index t 0 * _ + _ = _; rw [h0.2.2.1]; exact (by omega)
  | ⟨1, _⟩ => show win0_2.index t 1 * _ + _ = _; rw [h1.2.2.1]; exact (by omega)

/-- Window 3's block is its whole array. -/
theorem blk3 (c : Dev nD) (t : Fin cfg0.N) : (iblk m c 3 t : Vec Ideal S1x16384 .i32) = V m c main_v2 := by
  have h0 := index_zero t 0
  have h1 := index_zero t 1
  funext y
  unfold iblk
  show V m c main_v2 (((cfg0.win 3).blk t).view.emb y) = V m c main_v2 y
  refine congrArg (V m c main_v2) (funext fun a => Fin.ext ?_)
  blk_simp
  match a with
  | ⟨0, _⟩ => show win0_3.index t 0 * _ + _ = _; rw [h0.2.2.2.1]; exact (by omega)
  | ⟨1, _⟩ => show win0_3.index t 1 * _ + _ = _; rw [h1.2.2.2.1]; exact (by omega)

/-- Window 4's block is its whole array. -/
theorem blk4 (c : Dev nD) (t : Fin cfg0.N) : (iblk m c 4 t : Vec Ideal S1x16384 .i32) = V m c main_v3 := by
  have h0 := index_zero t 0
  have h1 := index_zero t 1
  funext y
  unfold iblk
  show V m c main_v3 (((cfg0.win 4).blk t).view.emb y) = V m c main_v3 y
  refine congrArg (V m c main_v3) (funext fun a => Fin.ext ?_)
  blk_simp
  match a with
  | ⟨0, _⟩ => show win0_4.index t 0 * _ + _ = _; rw [h0.2.2.2.2.1]; exact (by omega)
  | ⟨1, _⟩ => show win0_4.index t 1 * _ + _ = _; rw [h1.2.2.2.2.1]; exact (by omega)

/-- Window 5's block is its whole array. -/
theorem blk5 (c : Dev nD) (t : Fin cfg0.N) : (iblk m c 5 t : Vec Ideal S1x16384 .i32) = V m c main_v4 := by
  have h0 := index_zero t 0
  have h1 := index_zero t 1
  funext y
  unfold iblk
  show V m c main_v4 (((cfg0.win 5).blk t).view.emb y) = V m c main_v4 y
  refine congrArg (V m c main_v4) (funext fun a => Fin.ext ?_)
  blk_simp
  match a with
  | ⟨0, _⟩ => show win0_5.index t 0 * _ + _ = _; rw [h0.2.2.2.2.2.1]; exact (by omega)
  | ⟨1, _⟩ => show win0_5.index t 1 * _ + _ = _; rw [h1.2.2.2.2.2.1]; exact (by omega)

/-- Window 6's block is its whole array. -/
theorem blk6 (c : Dev nD) (t : Fin cfg0.N) : (iblk m c 6 t : Vec Ideal S1x1 .i32) = V m c main_v5 := by
  have h0 := index_zero t 0
  have h1 := index_zero t 1
  funext y
  unfold iblk
  show V m c main_v5 (((cfg0.win 6).blk t).view.emb y) = V m c main_v5 y
  refine congrArg (V m c main_v5) (funext fun a => Fin.ext ?_)
  blk_simp
  match a with
  | ⟨0, _⟩ => show win0_6.index t 0 * _ + _ = _; rw [h0.2.2.2.2.2.2.1]; exact (by omega)
  | ⟨1, _⟩ => show win0_6.index t 1 * _ + _ = _; rw [h1.2.2.2.2.2.2.1]; exact (by omega)

/-- Window 7's block is its whole array. -/
theorem blk7 (c : Dev nD) (t : Fin cfg0.N) : (iblk m c 7 t : Vec Ideal S1x1 .i32) = V m c main_v6 := by
  have h0 := index_zero t 0
  have h1 := index_zero t 1
  funext y
  unfold iblk
  show V m c main_v6 (((cfg0.win 7).blk t).view.emb y) = V m c main_v6 y
  refine congrArg (V m c main_v6) (funext fun a => Fin.ext ?_)
  blk_simp
  match a with
  | ⟨0, _⟩ => show win0_7.index t 0 * _ + _ = _; rw [h0.2.2.2.2.2.2.2.1]; exact (by omega)
  | ⟨1, _⟩ => show win0_7.index t 1 * _ + _ = _; rw [h1.2.2.2.2.2.2.2.1]; exact (by omega)

/-- Window 8's block is its whole array. -/
theorem blk8 (c : Dev nD) (t : Fin cfg0.N) : (iblk m c 8 t : Vec Ideal S16384x2048 .i8) = V m c main_arg8 := by
  have h0 := index_zero t 0
  have h1 := index_zero t 1
  funext y
  unfold iblk
  show V m c main_arg8 (((cfg0.win 8).blk t).view.emb y) = V m c main_arg8 y
  refine congrArg (V m c main_arg8) (funext fun a => Fin.ext ?_)
  blk_simp
  match a with
  | ⟨0, _⟩ => show win0_8.index t 0 * _ + _ = _; rw [h0.2.2.2.2.2.2.2.2.1]; exact (by omega)
  | ⟨1, _⟩ => show win0_8.index t 1 * _ + _ = _; rw [h1.2.2.2.2.2.2.2.2.1]; exact (by omega)

/-- Window 9's block is its whole array. -/
theorem blk9 (c : Dev nD) (t : Fin cfg0.N) : (iblk m c 9 t : Vec Ideal S1x2048 .i32) = V m c main_v7 := by
  have h0 := index_zero t 0
  have h1 := index_zero t 1
  funext y
  unfold iblk
  show V m c main_v7 (((cfg0.win 9).blk t).view.emb y) = V m c main_v7 y
  refine congrArg (V m c main_v7) (funext fun a => Fin.ext ?_)
  blk_simp
  match a with
  | ⟨0, _⟩ => show win0_9.index t 0 * _ + _ = _; rw [h0.2.2.2.2.2.2.2.2.2.1]; exact (by omega)
  | ⟨1, _⟩ => show win0_9.index t 1 * _ + _ = _; rw [h1.2.2.2.2.2.2.2.2.2.1]; exact (by omega)

/-- Window 10's block is its whole array. -/
theorem blk10 (c : Dev nD) (t : Fin cfg0.N) : (iblk m c 10 t : Vec Ideal S1x2048 .i32) = V m c main_v8 := by
  have h0 := index_zero t 0
  have h1 := index_zero t 1
  funext y
  unfold iblk
  show V m c main_v8 (((cfg0.win 10).blk t).view.emb y) = V m c main_v8 y
  refine congrArg (V m c main_v8) (funext fun a => Fin.ext ?_)
  blk_simp
  match a with
  | ⟨0, _⟩ => show win0_10.index t 0 * _ + _ = _; rw [h0.2.2.2.2.2.2.2.2.2.2.1]; exact (by omega)
  | ⟨1, _⟩ => show win0_10.index t 1 * _ + _ = _; rw [h1.2.2.2.2.2.2.2.2.2.2.1]; exact (by omega)

/-- Window 11's block is its whole array. -/
theorem blk11 (c : Dev nD) (t : Fin cfg0.N) : (iblk m c 11 t : Vec Ideal S1x2048 .i32) = V m c main_v9 := by
  have h0 := index_zero t 0
  have h1 := index_zero t 1
  funext y
  unfold iblk
  show V m c main_v9 (((cfg0.win 11).blk t).view.emb y) = V m c main_v9 y
  refine congrArg (V m c main_v9) (funext fun a => Fin.ext ?_)
  blk_simp
  match a with
  | ⟨0, _⟩ => show win0_11.index t 0 * _ + _ = _; rw [h0.2.2.2.2.2.2.2.2.2.2.2.1]; exact (by omega)
  | ⟨1, _⟩ => show win0_11.index t 1 * _ + _ = _; rw [h1.2.2.2.2.2.2.2.2.2.2.2.1]; exact (by omega)

/-- Window 12's block is its whole array. -/
theorem blk12 (c : Dev nD) (t : Fin cfg0.N) : (iblk m c 12 t : Vec Ideal S1x1 .i32) = V m c main_v10 := by
  have h0 := index_zero t 0
  have h1 := index_zero t 1
  funext y
  unfold iblk
  show V m c main_v10 (((cfg0.win 12).blk t).view.emb y) = V m c main_v10 y
  refine congrArg (V m c main_v10) (funext fun a => Fin.ext ?_)
  blk_simp
  match a with
  | ⟨0, _⟩ => show win0_12.index t 0 * _ + _ = _; rw [h0.2.2.2.2.2.2.2.2.2.2.2.2.1]; exact (by omega)
  | ⟨1, _⟩ => show win0_12.index t 1 * _ + _ = _; rw [h1.2.2.2.2.2.2.2.2.2.2.2.2.1]; exact (by omega)

/-- The codes of the input, as the reference reads them. -/
theorem V_x (c : Dev nD) : (V m c main_v0 : Vec Ideal S10240x2048 .i8) = argX m c := by
  unfold V
  after_reads_simp
  rfl

/-- The exponents, as the reference reads them. -/
theorem V_e (c : Dev nD) : (V m c main_v1 : Vec Ideal S10240x1 .i32) = argE m c := by
  unfold V
  after_reads_simp
  rfl

/-- A row with a unit axis added, read at an entry. -/
theorem row_apply {n : ℕ} (x : Vec Ideal ⟨1, ![n]⟩ .i32) (h : (⟨1, ![n]⟩ : Shape).ShapeCasts ⟨2, ![1, n]⟩) (f : Fin n) :
    shapeCast ⟨2, ![1, n]⟩ x h (ix2 0 f) = x (ix1 f) := by
  refine Eq.trans (shapeCast_addUnit_apply ![n] x h (ix2 0 f)) (congrArg x (funext fun a => ?_))
  match a with
  | ⟨0, _⟩ => rfl

theorem V_2 (c : Dev nD) (f : Fin 16384) : (V m c main_v2 : Vec Ideal S1x16384 .i32) (ix2 0 f) = (m ((c : Thread nD τ).loc main_arg3) : Vec Ideal S16384 .i32) (ix1 f) := by
  have h : (V m c main_v2 : Vec Ideal S1x16384 .i32) = shapeCast S1x16384 (m ((c : Thread nD τ).loc main_arg3) : Vec Ideal S16384 .i32) shapeCasts_S16384_S1x16384 := by
    unfold V
    after_reads_simp
    rfl
  rw [h]
  exact row_apply _ _ f

theorem V_3 (c : Dev nD) (f : Fin 16384) : (V m c main_v3 : Vec Ideal S1x16384 .i32) (ix2 0 f) = (m ((c : Thread nD τ).loc main_arg4) : Vec Ideal S16384 .i32) (ix1 f) := by
  have h : (V m c main_v3 : Vec Ideal S1x16384 .i32) = shapeCast S1x16384 (m ((c : Thread nD τ).loc main_arg4) : Vec Ideal S16384 .i32) shapeCasts_S16384_S1x16384 := by
    unfold V
    after_reads_simp
    rfl
  rw [h]
  exact row_apply _ _ f

theorem V_4 (c : Dev nD) (f : Fin 16384) : (V m c main_v4 : Vec Ideal S1x16384 .i32) (ix2 0 f) = (m ((c : Thread nD τ).loc main_arg5) : Vec Ideal S16384 .i32) (ix1 f) := by
  have h : (V m c main_v4 : Vec Ideal S1x16384 .i32) = shapeCast S1x16384 (m ((c : Thread nD τ).loc main_arg5) : Vec Ideal S16384 .i32) shapeCasts_S16384_S1x16384 := by
    unfold V
    after_reads_simp
    rfl
  rw [h]
  exact row_apply _ _ f

theorem V_7 (c : Dev nD) (f : Fin 2048) : (V m c main_v7 : Vec Ideal S1x2048 .i32) (ix2 0 f) = (m ((c : Thread nD τ).loc main_arg9) : Vec Ideal S2048 .i32) (ix1 f) := by
  have h : (V m c main_v7 : Vec Ideal S1x2048 .i32) = shapeCast S1x2048 (m ((c : Thread nD τ).loc main_arg9) : Vec Ideal S2048 .i32) shapeCasts_S2048_S1x2048 := by
    unfold V
    after_reads_simp
    rfl
  rw [h]
  exact row_apply _ _ f

theorem V_8 (c : Dev nD) (f : Fin 2048) : (V m c main_v8 : Vec Ideal S1x2048 .i32) (ix2 0 f) = (m ((c : Thread nD τ).loc main_arg10) : Vec Ideal S2048 .i32) (ix1 f) := by
  have h : (V m c main_v8 : Vec Ideal S1x2048 .i32) = shapeCast S1x2048 (m ((c : Thread nD τ).loc main_arg10) : Vec Ideal S2048 .i32) shapeCasts_S2048_S1x2048 := by
    unfold V
    after_reads_simp
    rfl
  rw [h]
  exact row_apply _ _ f

theorem V_9 (c : Dev nD) (f : Fin 2048) : (V m c main_v9 : Vec Ideal S1x2048 .i32) (ix2 0 f) = (m ((c : Thread nD τ).loc main_arg11) : Vec Ideal S2048 .i32) (ix1 f) := by
  have h : (V m c main_v9 : Vec Ideal S1x2048 .i32) = shapeCast S1x2048 (m ((c : Thread nD τ).loc main_arg11) : Vec Ideal S2048 .i32) shapeCasts_S2048_S1x2048 := by
    unfold V
    after_reads_simp
    rfl
  rw [h]
  exact row_apply _ _ f

theorem V_5 (c : Dev nD) : (V m c main_v5 : Vec Ideal S1x1 .i32) (ix2 0 0) = (m ((c : Thread nD τ).loc main_arg6) : Vec Ideal S_ .i32) ix0 := by
  have h : (V m c main_v5 : Vec Ideal S1x1 .i32) = shapeCast S1x1 (m ((c : Thread nD τ).loc main_arg6) : Vec Ideal S_ .i32) shapeCasts_S_S1x1 := by
    unfold V
    after_reads_simp
    rfl
  rw [h]
  unfold shapeCast
  exact congrArg _ (funext fun a => a.elim0)

theorem V_6 (c : Dev nD) : (V m c main_v6 : Vec Ideal S1x1 .i32) (ix2 0 0) = (m ((c : Thread nD τ).loc main_arg7) : Vec Ideal S_ .i32) ix0 := by
  have h : (V m c main_v6 : Vec Ideal S1x1 .i32) = shapeCast S1x1 (m ((c : Thread nD τ).loc main_arg7) : Vec Ideal S_ .i32) shapeCasts_S_S1x1 := by
    unfold V
    after_reads_simp
    rfl
  rw [h]
  unfold shapeCast
  exact congrArg _ (funext fun a => a.elim0)

theorem V_10 (c : Dev nD) : (V m c main_v10 : Vec Ideal S1x1 .i32) (ix2 0 0) = (m ((c : Thread nD τ).loc main_arg12) : Vec Ideal S_ .i32) ix0 := by
  have h : (V m c main_v10 : Vec Ideal S1x1 .i32) = shapeCast S1x1 (m ((c : Thread nD τ).loc main_arg12) : Vec Ideal S_ .i32) shapeCasts_S_S1x1 := by
    unfold V
    after_reads_simp
    rfl
  rw [h]
  unfold shapeCast
  exact congrArg _ (funext fun a => a.elim0)

/-- The first result's array after the run. -/
theorem final13 (c : Dev nD) : (dats m 0 c).arrAt 13 cfg0.N
    = gArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) := by
  refine (dats m 0 c).arrAt_eq_of_covers 13 _ (by decide +kernel) fun t hf y => ?_
  have h0 := (index_zero t 0).2.2.2.2.2.2.2.2.2.2.2.2.2.1
  have h1 := (index_zero t 1).2.2.2.2.2.2.2.2.2.2.2.2.2.1
  have he : (((cfg0.win 13).blk t).view.emb y : S10240x16384.Idx) = y := by
    refine funext fun a => Fin.ext ?_
    blk_simp
    match a with
    | ⟨0, _⟩ => show win0_13.index t 0 * _ + _ = _; rw [h0]; exact (by omega)
    | ⟨1, _⟩ => show win0_13.index t 1 * _ + _ = _; rw [h1]; exact (by omega)
  rw [he]
  blk_simp
  rw [after0_13, blk0, blk1, blk2, blk3, blk4, blk5, blk6, blk7, blk8, blk9, blk10, blk11, blk12]
  obtain ⟨r, f, rfl⟩ : ∃ (r : Fin 10240) (f : Fin 16384), y = ix2 r f := ⟨y 0, y 1, (ix2_eta _).symm⟩
  refine (out13_apply _ _ _ _ _ _ _ _ _ _ _ _ _ r f).trans ?_
  rw [V_x, V_e, V_main_arg2, V_2, V_3, V_4, V_5, V_6]
  rfl

/-- The second result's array after the run. -/
theorem final14 (c : Dev nD) : (dats m 0 c).arrAt 14 cfg0.N
    = zArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) (m ((c : Thread nD τ).loc main_arg8) : Vec Ideal S16384x2048 .i8) (m ((c : Thread nD τ).loc main_arg9) : Vec Ideal S2048 .i32) (m ((c : Thread nD τ).loc main_arg10) : Vec Ideal S2048 .i32) (m ((c : Thread nD τ).loc main_arg11) : Vec Ideal S2048 .i32) (m ((c : Thread nD τ).loc main_arg12) : Vec Ideal S_ .i32) := by
  refine (dats m 0 c).arrAt_eq_of_covers 14 _ (by decide +kernel) fun t hf y => ?_
  have h0 := (index_zero t 0).2.2.2.2.2.2.2.2.2.2.2.2.2.2
  have h1 := (index_zero t 1).2.2.2.2.2.2.2.2.2.2.2.2.2.2
  have he : (((cfg0.win 14).blk t).view.emb y : S10240x2048.Idx) = y := by
    refine funext fun a => Fin.ext ?_
    blk_simp
    match a with
    | ⟨0, _⟩ => show win0_14.index t 0 * _ + _ = _; rw [h0]; exact (by omega)
    | ⟨1, _⟩ => show win0_14.index t 1 * _ + _ = _; rw [h1]; exact (by omega)
  rw [he]
  blk_simp
  rw [after0_14, blk0, blk1, blk2, blk3, blk4, blk5, blk6, blk7, blk8, blk9, blk10, blk11, blk12]
  obtain ⟨r, f, rfl⟩ : ∃ (r : Fin 10240) (f : Fin 2048), y = ix2 r f := ⟨y 0, y 1, (ix2_eta _).symm⟩
  refine (out14_apply _ _ _ _ _ _ _ _ _ _ _ _ _ r f).trans ?_
  rw [V_x, V_e, V_main_arg2, V_main_arg8, V_5, V_6, V_7, V_8, V_9, V_10]
  change zWord _ _ _ _ _ _ _ = zWord _ _ _ _ _ _ _
  refine congrArg (fun g : Fin 16384 → ℤ => zWord g _ _ _ _ _ _) (funext fun f' => ?_)
  beta_reduce
  rw [V_2, V_3, V_4]
  rfl

/-- The reference's run: both results as functions of the arguments, the arguments kept. -/
theorem run_value (ρ : Dev nD → PrngReg) : θ_run defs (onTc (τ := τ) (main (F := Ideal))) ⟨m, fun _ => 0, ρ⟩ (fun r => ∀ c : Dev nD,
      r.2.mem ((c.tc : Thread nD τ).loc main_v11_0) = gArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32)
      ∧ r.2.mem ((c.tc : Thread nD τ).loc main_v11_1) = zArr (argX m c) (argE m c) (m ((c : Thread nD τ).loc main_arg2) : Vec Ideal S2048x16384 .i8) (m ((c : Thread nD τ).loc main_arg3) : Vec Ideal S16384 .i32) (m ((c : Thread nD τ).loc main_arg4) : Vec Ideal S16384 .i32) (m ((c : Thread nD τ).loc main_arg5) : Vec Ideal S16384 .i32) (m ((c : Thread nD τ).loc main_arg6) : Vec Ideal S_ .i32) (m ((c : Thread nD τ).loc main_arg7) : Vec Ideal S_ .i32) (m ((c : Thread nD τ).loc main_arg8) : Vec Ideal S16384x2048 .i8) (m ((c : Thread nD τ).loc main_arg9) : Vec Ideal S2048 .i32) (m ((c : Thread nD τ).loc main_arg10) : Vec Ideal S2048 .i32) (m ((c : Thread nD τ).loc main_arg11) : Vec Ideal S2048 .i32) (m ((c : Thread nD τ).loc main_arg12) : Vec Ideal S_ .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h.1 c).1 13).trans (final13 m c), ((h.1 c).1 14).trans (final14 m c), h.2 c⟩)
    (θ_run_and (run_main m ρ) (unchanged m ρ))

end Cert.ReferenceIdeal.Hand

end
-- ==== Proof.lean ====
module

public import proofs.«01_k».proof.Defs
public import proofs.«01_k».proof.Proof.KernelFrame
public import proofs.«01_k».proof.Proof.KernelIdealFrame
public import proofs.«01_k».proof.Proof.KernelIdealValue
public import proofs.«01_k».proof.Proof.ReferenceIdealValue
public import proofs.«01_k».proof.Proof.Gen.ReferenceIdeal.Frame

@[expose] public section

set_option maxRecDepth 16384

noncomputable section

namespace Cert.Proof

open Idealize.ShloMosaic Idealize.SL.Sem Cert.Kernel Cert.Ffn

/-- The first result depends on the arguments only. -/
theorem gArr_congr {x x' : Mat 8 10240 2048} {e e' : Mat 32 10240 1} {w1 w1' : Mat 8 2048 16384} {m1 m1' k1 k1' b1 b1' : Row 16384}
    {m2 m2' k2 k2' : One} (hx : x = x') (he : e = e') (hw1 : w1 = w1') (hm1 : m1 = m1') (hk1 : k1 = k1') (hb1 : b1 = b1')
    (hm2 : m2 = m2') (hk2 : k2 = k2') : gArr x e w1 m1 k1 b1 m2 k2 = gArr x' e' w1' m1' k1' b1' m2' k2' := by
  subst hx he hw1 hm1 hk1 hb1 hm2 hk2
  rfl

/-- The second result depends on the arguments only. -/
theorem zArr_congr {x x' : Mat 8 10240 2048} {e e' : Mat 32 10240 1} {w1 w1' : Mat 8 2048 16384} {m1 m1' k1 k1' b1 b1' : Row 16384}
    {m2 m2' k2 k2' : One} {w2 w2' : Mat 8 16384 2048} {m3 m3' k3 k3' b2 b2' : Row 2048} {ze ze' : One}
    (hx : x = x') (he : e = e') (hw1 : w1 = w1') (hm1 : m1 = m1') (hk1 : k1 = k1') (hb1 : b1 = b1') (hm2 : m2 = m2') (hk2 : k2 = k2')
    (hw2 : w2 = w2') (hm3 : m3 = m3') (hk3 : k3 = k3') (hb2 : b2 = b2') (hze : ze = ze') :
    zArr x e w1 m1 k1 b1 m2 k2 w2 m3 k3 b2 ze = zArr x' e' w1' m1' k1' b1' m2' k2' w2' m3' k3' b2' ze' := by
  subst hx he hw1 hm1 hk1 hb1 hm2 hk2 hw2 hm3 hk3 hb2 hze
  rfl

/-- From equal arguments the kernel and the reference over the reals leave equal arrays in both claimed results. -/
theorem value : algebraic_KernelIdeal_ReferenceIdeal (hKernelIdeal := Cert.KernelIdeal.Gen.facts) (hReferenceIdeal := Cert.ReferenceIdeal.Gen.facts) := by
  intro m g m' g' _ hm
  refine ⟨fun c => gArr (Cert.KernelIdeal.Hand.argX m c) (Cert.KernelIdeal.Hand.argE m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => zArr (Cert.KernelIdeal.Hand.argX m c) (Cert.KernelIdeal.Hand.argE m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.Hand.run_value m g, ?_⟩
  refine (θ_run _ _ _).mono (fun r h c => ?_) (Cert.ReferenceIdeal.Hand.run_value m' g')
  obtain ⟨a0, a1, a2, a3, a4, a5, a6, a7, a8, a9, a10, a11, a12, a13, a14, a15⟩ := hm c
  obtain ⟨hg, hz, hk⟩ := h c
  have hx : Cert.ReferenceIdeal.Hand.argX m' c = Cert.KernelIdeal.Hand.argX m c :=
    congrArg (fun v : Vec Ideal Cert.KernelIdeal.S8x1280x2048 .i8 => shapeCast Cert.KernelIdeal.S10240x2048 v Cert.KernelIdeal.Gen.shapeCasts_S8x1280x2048_S10240x2048) a0
  have he : Cert.ReferenceIdeal.Hand.argE m' c = Cert.KernelIdeal.Hand.argE m c :=
    congrArg (fun v : Vec Ideal Cert.KernelIdeal.S8x1280 .i32 => shapeCast Cert.KernelIdeal.S10240x1 v Cert.KernelIdeal.Gen.shapeCasts_S8x1280_S10240x1) a1
  exact ⟨hg.trans (gArr_congr hx he a2 a3 a4 a5 a6 a7), hz.trans (zArr_congr hx he a2 a3 a4 a5 a6 a7 a8 a9 a10 a11 a12), hk⟩

/-- The kernel, the kernel over the reals and the reference over the reals each run to the end from any memory and leave
    their arguments and counters as they must, the kernel over the reals is the kernel's own program, and it computes
    what the reference computes. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, value⟩

end Cert.Proof

end
